-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "cap_log2e" .f32 0x429044FE#32 ((50 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x8192 : Shape := ⟨3, ![8, 2048, 8192]⟩
abbrev S64 : Shape := ⟨1, ![64]⟩
abbrev S8x2048x1024 : Shape := ⟨3, ![8, 2048, 1024]⟩
abbrev S8 : Shape := ⟨1, ![8]⟩
abbrev S8x2048x8x128 : Shape := ⟨4, ![8, 2048, 8, 128]⟩
abbrev S8x8x128x2048 : Shape := ⟨4, ![8, 8, 128, 2048]⟩
abbrev S1x2048x128 : Shape := ⟨3, ![1, 2048, 128]⟩
abbrev S1x1x128x2048 : Shape := ⟨4, ![1, 1, 128, 2048]⟩
abbrev S2x2048x256 : Shape := ⟨3, ![2, 2048, 256]⟩
abbrev S1 : Shape := ⟨1, ![1]⟩
abbrev S128x128 : Shape := ⟨2, ![128, 128]⟩
abbrev S1x256x128 : Shape := ⟨3, ![1, 256, 128]⟩
abbrev S256x128 : Shape := ⟨2, ![256, 128]⟩
abbrev S256x256 : Shape := ⟨2, ![256, 256]⟩
abbrev S32x256 : Shape := ⟨2, ![32, 256]⟩
abbrev S32x128 : Shape := ⟨2, ![32, 128]⟩
abbrev S1x32x256 : Shape := ⟨3, ![1, 32, 256]⟩
abbrev S256 : Shape := ⟨1, ![256]⟩
abbrev S1x256 : Shape := ⟨2, ![1, 256]⟩
abbrev S1x1x128x256 : Shape := ⟨4, ![1, 1, 128, 256]⟩
abbrev S128x256 : Shape := ⟨2, ![128, 256]⟩
abbrev S1x256x256 : Shape := ⟨3, ![1, 256, 256]⟩
abbrev S1x512x128 : Shape := ⟨3, ![1, 512, 128]⟩
abbrev S512x128 : Shape := ⟨2, ![512, 128]⟩
abbrev S512x256 : Shape := ⟨2, ![512, 256]⟩
abbrev S1x1x128x512 : Shape := ⟨4, ![1, 1, 128, 512]⟩
abbrev S128x512 : Shape := ⟨2, ![128, 512]⟩
abbrev S1x512x256 : Shape := ⟨3, ![1, 512, 256]⟩
abbrev S1x768x128 : Shape := ⟨3, ![1, 768, 128]⟩
abbrev S768x128 : Shape := ⟨2, ![768, 128]⟩
abbrev S768x256 : Shape := ⟨2, ![768, 256]⟩
abbrev S1x1x128x768 : Shape := ⟨4, ![1, 1, 128, 768]⟩
abbrev S128x768 : Shape := ⟨2, ![128, 768]⟩
abbrev S1x768x256 : Shape := ⟨3, ![1, 768, 256]⟩
abbrev S1x1024x128 : Shape := ⟨3, ![1, 1024, 128]⟩
abbrev S1024x128 : Shape := ⟨2, ![1024, 128]⟩
abbrev S1024x256 : Shape := ⟨2, ![1024, 256]⟩
abbrev S1x1x128x1024 : Shape := ⟨4, ![1, 1, 128, 1024]⟩
abbrev S128x1024 : Shape := ⟨2, ![128, 1024]⟩
abbrev S1x1024x256 : Shape := ⟨3, ![1, 1024, 256]⟩
abbrev S1x1280x128 : Shape := ⟨3, ![1, 1280, 128]⟩
abbrev S1280x128 : Shape := ⟨2, ![1280, 128]⟩
abbrev S1280x256 : Shape := ⟨2, ![1280, 256]⟩
abbrev S1x1x128x1280 : Shape := ⟨4, ![1, 1, 128, 1280]⟩
abbrev S128x1280 : Shape := ⟨2, ![128, 1280]⟩
abbrev S1x1280x256 : Shape := ⟨3, ![1, 1280, 256]⟩
abbrev S1x1536x128 : Shape := ⟨3, ![1, 1536, 128]⟩
abbrev S1536x128 : Shape := ⟨2, ![1536, 128]⟩
abbrev S1536x256 : Shape := ⟨2, ![1536, 256]⟩
abbrev S1x1x128x1536 : Shape := ⟨4, ![1, 1, 128, 1536]⟩
abbrev S128x1536 : Shape := ⟨2, ![128, 1536]⟩
abbrev S1x1536x256 : Shape := ⟨3, ![1, 1536, 256]⟩
abbrev S1x1792x128 : Shape := ⟨3, ![1, 1792, 128]⟩
abbrev S1792x128 : Shape := ⟨2, ![1792, 128]⟩
abbrev S1792x256 : Shape := ⟨2, ![1792, 256]⟩
abbrev S1x1x128x1792 : Shape := ⟨4, ![1, 1, 128, 1792]⟩
abbrev S128x1792 : Shape := ⟨2, ![128, 1792]⟩
abbrev S1x1792x256 : Shape := ⟨3, ![1, 1792, 256]⟩
abbrev S2048x128 : Shape := ⟨2, ![2048, 128]⟩
abbrev S2048x256 : Shape := ⟨2, ![2048, 256]⟩
abbrev S128x2048 : Shape := ⟨2, ![128, 2048]⟩
abbrev S1x2048x256 : Shape := ⟨3, ![1, 2048, 256]⟩

abbrev nBuf : Space → Nat
  | .hbm => 9
  | .vmem => 10
  | .smem => 3
  | _ => 0

abbrev bufTy : (tb : Table) → Fin (tcTables nBuf tb) → BufTy
  | .hbm, ⟨0, _⟩ => ⟨S8x2048x8192, .fp8e4m3⟩
  | .hbm, ⟨1, _⟩ => ⟨S64, .f32⟩
  | .hbm, ⟨2, _⟩ => ⟨S8x2048x1024, .fp8e4m3⟩
  | .hbm, ⟨3, _⟩ => ⟨S8, .f32⟩
  | .hbm, ⟨4, _⟩ => ⟨S8x2048x1024, .fp8e4m3⟩
  | .hbm, ⟨5, _⟩ => ⟨S8, .f32⟩
  | .hbm, ⟨6, _⟩ => ⟨S8x2048x8x128, .fp8e4m3⟩
  | .hbm, ⟨7, _⟩ => ⟨S8x8x128x2048, .fp8e4m3⟩
  | .hbm, ⟨8, _⟩ => ⟨S8x2048x8192, .bf16⟩
  | .local _ .vmem, ⟨0, _⟩ => ⟨S1x2048x128, .fp8e4m3⟩
  | .local _ .vmem, ⟨1, _⟩ => ⟨S1x2048x128, .fp8e4m3⟩
  | .local _ .vmem, ⟨2, _⟩ => ⟨S1x2048x128, .fp8e4m3⟩
  | .local _ .vmem, ⟨3, _⟩ => ⟨S1x2048x128, .fp8e4m3⟩
  | .local _ .vmem, ⟨4, _⟩ => ⟨S1x1x128x2048, .fp8e4m3⟩
  | .local _ .vmem, ⟨5, _⟩ => ⟨S1x1x128x2048, .fp8e4m3⟩
  | .local _ .vmem, ⟨6, _⟩ => ⟨S1x2048x128, .bf16⟩
  | .local _ .vmem, ⟨7, _⟩ => ⟨S1x2048x128, .bf16⟩
  | .local _ .vmem, ⟨8, _⟩ => ⟨S2x2048x256, .f32⟩
  | .local _ .vmem, ⟨9, _⟩ => ⟨S2x2048x256, .fp8e4m3⟩
  | .local _ .smem, ⟨0, _⟩ => ⟨S64, .f32⟩
  | .local _ .smem, ⟨1, _⟩ => ⟨S8, .f32⟩
  | .local _ .smem, ⟨2, _⟩ => ⟨S8, .f32⟩
  | _, _ => ⟨S8x2048x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 8, 8], ![false, false, false]⟩

def k0_off1 (i : grid0.Coords) : Fin 1 → Nat :=
  let arg1 : BitVec 32 := BitVec.ofNat 32 (i 1).val
  let c8_i32 : BitVec 32 := 8#32
  let v0 : BitVec 32 := Scalar.muli arg1 c8_i32
  let arg2 : BitVec 32 := BitVec.ofNat 32 (i 2).val
  let v1 : BitVec 32 := Scalar.addi v0 arg2
  let v2 : Index := Scalar.indexCast v1
  ![v2.toNat]
def k0_off2 (i : grid0.Coords) : Fin 1 → Nat :=
  let arg1 : BitVec 32 := BitVec.ofNat 32 (i 1).val
  let v4 : Index := Scalar.indexCast arg1
  ![v4.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, c0_i32.toNat, v1.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x2048x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "cap_log2e" => some ((50 * (Real.log 2)⁻¹ : ℝ) : EReal)
  | _ => none
-- ==== ReferenceIdeal.lean ====
abbrev S8x2048x8192 : Shape := ⟨3, ![8, 2048, 8192]⟩
abbrev S64 : Shape := ⟨1, ![64]⟩
abbrev S8x2048x1024 : Shape := ⟨3, ![8, 2048, 1024]⟩
abbrev S8 : Shape := ⟨1, ![8]⟩
abbrev S8x2048x8x8x128 : Shape := ⟨5, ![8, 2048, 8, 8, 128]⟩
abbrev S8x2048x8x128 : Shape := ⟨4, ![8, 2048, 8, 128]⟩
abbrev S8x8 : Shape := ⟨2, ![8, 8]⟩
abbrev S8x1 : Shape := ⟨2, ![8, 1]⟩
abbrev S8x8x2048x2048x8 : Shape := ⟨5, ![8, 8, 2048, 2048, 8]⟩
abbrev S8x8x8x2048x2048 : Shape := ⟨5, ![8, 8, 8, 2048, 2048]⟩
abbrev S1x8x8x1x1 : Shape := ⟨5, ![1, 8, 8, 1, 1]⟩
abbrev S1x2048 : Shape := ⟨2, ![1, 2048]⟩
abbrev S2048 : Shape := ⟨1, ![2048]⟩
abbrev S2048x1 : Shape := ⟨2, ![2048, 1]⟩
abbrev S2048x2048 : Shape := ⟨2, ![2048, 2048]⟩
abbrev S1x1x1x2048x2048 : Shape := ⟨5, ![1, 1, 1, 2048, 2048]⟩
abbrev S8x8x8x2048 : Shape := ⟨4, ![8, 8, 8, 2048]⟩
abbrev S8x8x8x2048x1 : Shape := ⟨5, ![8, 8, 8, 2048, 1]⟩
abbrev S8x8x128x8x2048 : Shape := ⟨5, ![8, 8, 128, 8, 2048]⟩
abbrev S1x1x8x1x1 : Shape := ⟨5, ![1, 1, 8, 1, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x8192, .fp8e4m3⟩
  | .hbm, ⟨1, _⟩ => ⟨S64, .f32⟩
  | .hbm, ⟨2, _⟩ => ⟨S8x2048x1024, .fp8e4m3⟩
  | .hbm, ⟨3, _⟩ => ⟨S8, .f32⟩
  | .hbm, ⟨4, _⟩ => ⟨S8x2048x1024, .fp8e4m3⟩
  | .hbm, ⟨5, _⟩ => ⟨S8, .f32⟩
  | .hbm, ⟨6, _⟩ => ⟨S8x2048x8192, .bf16⟩
  | .local _ .vmem, ⟨0, _⟩ => ⟨S8x2048x8192, .fp8e4m3⟩
  | .local _ .vmem, ⟨1, _⟩ => ⟨S64, .f32⟩
  | .local _ .vmem, ⟨2, _⟩ => ⟨S8x2048x1024, .fp8e4m3⟩
  | .local _ .vmem, ⟨3, _⟩ => ⟨S8, .f32⟩
  | .local _ .vmem, ⟨4, _⟩ => ⟨S8x2048x1024, .fp8e4m3⟩
  | .local _ .vmem, ⟨5, _⟩ => ⟨S8, .f32⟩
  | .local _ .vmem, ⟨6, _⟩ => ⟨S8x2048x8192, .bf16⟩
  | _, _ => ⟨S8x2048x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Chunks.lean ====
/- How the kernel's body fills its two scratch buffers, chunk by chunk: reading lemmas that hold at every query block.
   A query block has 256 columns; its keys come in chunks of 32 rows. -/
module

public import proofs.«01_k».proof.Proof.Gen.KernelIdeal.Value
public import Idealize.ShloMosaic.Lib.Pointwise
public import Idealize.ShloMosaic.Lib.MatmulPlain
public import Idealize.ShloMosaic.Lib.ValueLayout
public import Idealize.ShloMosaic.Lib.WordCmp

@[expose] public section

set_option maxRecDepth 16384

noncomputable section

namespace Cert.Attn

open Cert.KernelIdeal Idealize.ShloMosaic Idealize.ShloMosaic.TcCoe

/-- The exponential of a softcapped score `s`: the score is scaled by `w`, and `c` carries the cap. -/
def weight (w c s : EReal) : EReal := Ideal.exp2 (Ideal.tanh (s * w) * c)

/-- What the scratch of exponentials holds at a key and a column of the query block that starts at row `D`:
    the weight of the score where the key is not after the query, zero elsewhere. -/
def masked (w c : EReal) (sc : ℕ → ℕ → EReal) (D key col : ℕ) : EReal :=
  if key ≤ D + col then weight w c (sc key col) else 0

/-- Half `b` of a scratch buffer, after the stores `L`, holds `G` at its first `n` chunks. -/
def IsBuf {e : EltTy} (b : Fin 2) (G : ℕ → ℕ → Elt Ideal e) (n : ℕ) (L : List (View.Piece (Elt Ideal) S2x2048x256 e)) : Prop :=
  ∀ (key : Fin 2048) (col : Fin 256), key.val < 32 * n → View.canon L (ix3 b key col) = G key col

/-- No chunk is asked of any stores. -/
theorem IsBuf.nil {e : EltTy} {b : Fin 2} {G : ℕ → ℕ → Elt Ideal e} {L : List (View.Piece (Elt Ideal) S2x2048x256 e)} :
    IsBuf b G 0 L := fun _ _ h => absurd h (by omega)

/-- One more chunk stored, the chunks before it kept. -/
theorem IsBuf.step {e : EltTy} {b : Fin 2} {G : ℕ → ℕ → Elt Ideal e} {n : ℕ} {L : List (View.Piece (Elt Ideal) S2x2048x256 e)} {b' o : ℕ}
    (hL : IsBuf b G n L) (hb : b' = b.val) (ho : o = 32 * n) (inb : ∀ a, (![b', o, 0] : Fin 3 → ℕ) a + S1x32x256.size a ≤ S2x2048x256.size a)
    (w : S1x32x256.Idx → Elt Ideal e) (hw : ∀ (r : Fin 32) (col : Fin 256), w (ix3 0 r col) = G (32 * n + r) col) :
    IsBuf b G (n + 1) (⟨Rect.unit (s := S2x2048x256) ![b', o, 0] S1x32x256.size inb, w⟩ :: L) := by
  intro key col hk
  by_cases h : key.val < 32 * n
  · rw [View.canon_cons_of_not_mem, hL key col h]
    rw [Rect.mem_set_unit]
    intro hm
    have := (hm 1).1
    change o ≤ key.val at this
    omega
  · have hr : key.val - 32 * n < 32 := by omega
    have hidx : (ix3 b key col : S2x2048x256.Idx)
        = (Rect.unit (s := S2x2048x256) ![b', o, 0] S1x32x256.size inb).emb (ix3 (0 : Fin 1) ⟨key.val - 32 * n, hr⟩ col : S1x32x256.Idx) := by
      funext a
      apply Fin.ext
      match a with
      | ⟨0, _⟩ => show b.val = b' + 1 * 0; omega
      | ⟨1, _⟩ => show key.val = o + 1 * (key.val - 32 * n); omega
      | ⟨2, _⟩ => show col.val = 0 + 1 * col.val; omega
    rw [hidx]
    refine (View.canon_cons_emb (Val := Elt Ideal) (Rect.unit (s := S2x2048x256) ![b', o, 0] S1x32x256.size inb) w L _).trans ?_
    rw [hw]
    congr 1
    show 32 * n + (key.val - 32 * n) = key.val
    omega

/-- A load of one chunk of the scratch. -/
theorem IsBuf.load {e : EltTy} {b : Fin 2} {G : ℕ → ℕ → Elt Ideal e} {n : ℕ} {L : List (View.Piece (Elt Ideal) S2x2048x256 e)}
    (hL : IsBuf b G n L) {sig : RefSig} {κ : Kind} {sp : Space} (v : View sig κ sp S2x2048x256 e) {b' o : ℕ} (hb : b' = b.val)
    (inb : ∀ a, (![b', o, 0] : Fin 3 → ℕ) a + S1x32x256.size a ≤ S2x2048x256.size a) (r : Fin 32) (col : Fin 256) (h : o + r.val < 32 * n) :
    v.readCov L (Rect.unit (s := S2x2048x256) ![b', o, 0] S1x32x256.size inb).toLoadRect (ix3 (0 : Fin 1) r col : S1x32x256.Idx) = G (o + r) col := by
  have hi : o + r.val < 2048 := by
    have := inb 1
    change o + 32 ≤ 2048 at this
    omega
  rw [View.readCov_eq_canon']
  refine Eq.trans (congrArg (View.canon L) ?_) (hL ⟨o + r.val, hi⟩ col h)
  funext a
  apply Fin.ext
  match a with
  | ⟨0, _⟩ => show b' + 1 * 0 = b.val; omega
  | ⟨1, _⟩ => show o + 1 * r.val = o + r.val; omega
  | ⟨2, _⟩ => show 0 + 1 * col.val = col.val; omega

/-- A load of the first `K` rows of the scratch. -/
theorem IsBuf.loadAll {e : EltTy} {b : Fin 2} {G : ℕ → ℕ → Elt Ideal e} {n : ℕ} {L : List (View.Piece (Elt Ideal) S2x2048x256 e)}
    (hL : IsBuf b G n L) {sig : RefSig} {κ : Kind} {sp : Space} (v : View sig κ sp S2x2048x256 e) {b' K : ℕ} (hb : b' = b.val) (hK : K = 32 * n)
    (inb : ∀ a, (![b', 0, 0] : Fin 3 → ℕ) a + (![1, K, 256] : Fin 3 → ℕ) a ≤ S2x2048x256.size a) (key : Fin K) (col : Fin 256) :
    v.readCov L (Rect.unit (s := S2x2048x256) ![b', 0, 0] ![1, K, 256] inb).toLoadRect (ix3 (0 : Fin 1) key col : (⟨3, ![1, K, 256]⟩ : Shape).Idx) = G key col := by
  have hi : key.val < 2048 := by
    have := inb 1
    change 0 + K ≤ 2048 at this
    omega
  rw [View.readCov_eq_canon']
  refine Eq.trans (congrArg (View.canon L) ?_) (hL ⟨key.val, hi⟩ col (by have := key.isLt; show key.val < _; omega))
  funext a
  apply Fin.ext
  match a with
  | ⟨0, _⟩ => show b' + 1 * 0 = b.val; omega
  | ⟨1, _⟩ => show 0 + 1 * key.val = key.val; omega
  | ⟨2, _⟩ => show 0 + 1 * col.val = col.val; omega

/-- A chunk of 32 rows holds `G` from row `32 n` on. -/
def IsChunk (G : ℕ → ℕ → EReal) (n : ℕ) (x : FVec Ideal S32x256 .f32) : Prop := ∀ (r : Fin 32) (col : Fin 256), x (ix2 r col) = G (32 * n + r) col

/-- The same of a chunk with a leading unit axis, of any element type. -/
def IsPiece {e : EltTy} (G : ℕ → ℕ → Elt Ideal e) (n : ℕ) (w : S1x32x256.Idx → Elt Ideal e) : Prop :=
  ∀ (r : Fin 32) (col : Fin 256), w (ix3 0 r col) = G (32 * n + r) col

/-- A running sum of chunks: row `r` holds the sum of row `r` of the first `m` chunks. -/
def IsAcc (G : ℕ → ℕ → EReal) (m : ℕ) (x : FVec Ideal S32x256 .f32) : Prop :=
  ∀ (r : Fin 32) (col : Fin 256), x (ix2 r col) = ∑ n ∈ Finset.range m, G (32 * n + r) col

/-- A chunk stored with a leading unit axis. -/
theorem cast3 {α : Type} (x : S32x256.Idx → α) (h : S32x256.ShapeCasts S1x32x256) (r : Fin 32) (col : Fin 256) :
    shapeCast S1x32x256 x h (ix3 0 r col) = x (ix2 r col) := by pointwise

/-- A chunk loaded with a leading unit axis. -/
theorem cast2 {α : Type} (x : S1x32x256.Idx → α) (h : S1x32x256.ShapeCasts S32x256) (r : Fin 32) (col : Fin 256) :
    shapeCast S32x256 x h (ix2 r col) = x (ix3 0 r col) := by pointwise

/-- A chunk of exponentials as it is stored. -/
theorem IsChunk.piece {G : ℕ → ℕ → EReal} {n : ℕ} {x : FVec Ideal S32x256 .f32} (hx : IsChunk G n x) (h : S32x256.ShapeCasts S1x32x256) :
    IsPiece (e := .f32) G n (shapeCast S1x32x256 x h) := fun r col => (cast3 x h r col).trans (hx r col)

/-- The running sum starts at zero. -/
theorem IsAcc.zero {G : ℕ → ℕ → EReal} : IsAcc G 0 (broadcast S32x256 (Scalar.ofBits (F := Ideal) .f32 0x00000000#32)) := by
  intro r col
  pointwise
  simp

/-- The running sum takes one more chunk. -/
theorem IsAcc.step {G : ℕ → ℕ → EReal} {m : ℕ} {x y : FVec Ideal S32x256 .f32} (hx : IsAcc G m x) (hy : IsChunk G m y) : IsAcc G (m + 1) (addf x y) := by
  intro r col
  rw [Finset.sum_range_succ, ← hx r col, ← hy r col]
  rfl

/-- Summing 32 rows of chunk sums is summing all the rows. -/
theorem sum_chunks (f : ℕ → EReal) (m : ℕ) :
    ∑ r ∈ Finset.range 32, ∑ n ∈ Finset.range m, f (32 * n + r) = ∑ key ∈ Finset.range (32 * m), f key := by
  induction m with
  | zero => simp
  | succ m ih => rw [Nat.mul_succ, Finset.sum_range_add, ← ih, ← Finset.sum_add_distrib]; simp only [Finset.sum_range_succ (n := m)]

/-- The normalizer of a column over `m` chunks: 256 over the sum of its exponentials. -/
def normalizer (G : ℕ → ℕ → EReal) (m col : ℕ) : EReal :=
  Ideal.div (Scalar.ofBits (F := Ideal) .f32 0x43800000#32) (∑ key ∈ Finset.range (32 * m), G key col)

/-- A row holds the normalizers of the block's columns. -/
def IsNorm (G : ℕ → ℕ → EReal) (m : ℕ) (x : FVec Ideal S1x256 .f32) : Prop := ∀ col : Fin 256, x (ix2 0 col) = normalizer G m col

/-- The normalizers as the kernel takes them: the running sum of all chunks is summed over its 32 rows. -/
theorem IsNorm.of_acc {G : ℕ → ℕ → EReal} {m : ℕ} {x : FVec Ideal S32x256 .f32} (hx : IsAcc G m x) (h1 h2 h3 h4) :
    IsNorm G m (divf (broadcast S1x256 (Scalar.ofBits (F := Ideal) .f32 0x43800000#32))
        (shapeCast S1x256 (multiReduction .add [0] S256 x 0x00000000#32 h1 h2 h3) h4)) := by
  intro col
  rw [normalizer, ← sum_chunks (fun key => G key col), Finset.sum_range]
  refine Eq.trans ?_ (congrArg (Ideal.div _) (Finset.sum_congr rfl fun r _ => hx r col))
  pointwise

section Chunk

variable {N : ℕ} {S : FVec Ideal ⟨2, ![N, 256]⟩ .f32} {sc : ℕ → ℕ → EReal}

/-- The matrix of scores holds `sc`. -/
def IsScore (sc : ℕ → ℕ → EReal) (S : FVec Ideal ⟨2, ![N, 256]⟩ .f32) : Prop := ∀ (key : Fin N) (col : Fin 256), S (ix2 key col) = sc key col

/-- A block of the matrix of scores. -/
theorem slice_apply {R C o p : ℕ} (hS : IsScore sc S)
    (h : (⟨2, ![N, 256]⟩ : Shape).Slices ![o, p] ⟨2, ![R, C]⟩) (r : Fin R) (col : Fin C) :
    extractStridedSlice ⟨2, ![R, C]⟩ ![o, p] S h (ix2 r col) = sc (o + r) (p + col) := by
  have h0 : o + R ≤ N := h.2 0
  have h1 : p + C ≤ 256 := h.2 1
  refine Eq.trans (congrArg S ?_) (hS ⟨o + r.val, by omega⟩ ⟨p + col.val, by omega⟩)
  funext a
  match a with
  | ⟨0, _⟩ => rfl
  | ⟨1, _⟩ => rfl

/-- The exponentials of a block of scores. -/
theorem weight_apply {R C o p : ℕ} (w c : EReal) (hS : IsScore sc S)
    (h : (⟨2, ![N, 256]⟩ : Shape).Slices ![o, p] ⟨2, ![R, C]⟩) (r : Fin R) (col : Fin C) :
    exp2 (mulf (tanh (mulf (extractStridedSlice ⟨2, ![R, C]⟩ ![o, p] S h) (broadcast ⟨2, ![R, C]⟩ w))) (broadcast ⟨2, ![R, C]⟩ c)) (ix2 r col)
      = weight w c (sc (o + r) (p + col)) := by
  rw [← slice_apply hS h r col]
  rfl

/-- A chunk wholly before the query block. -/
theorem IsChunk.full {w c : EReal} {o n D : ℕ} (hS : IsScore sc S) (ho : o = 32 * n) (hD : 32 * n + 32 ≤ D)
    (h : (⟨2, ![N, 256]⟩ : Shape).Slices ![o, 0] S32x256) :
    IsChunk (masked w c sc D) n
      (exp2 (mulf (tanh (mulf (extractStridedSlice S32x256 ![o, 0] S h) (broadcast S32x256 w))) (broadcast S32x256 c))) := by
  subst ho
  intro r col
  refine (weight_apply w c hS h r col).trans ?_
  rw [masked, if_pos (by omega), Nat.zero_add]

/-- The triangular mask of a 128 x 128 tile, read at 32 of its rows. -/
theorem tri_apply {mo : ℕ} (hm : S128x128.Slices ![mo, 0] S32x128) (r : Fin 32) (col : Fin 128) (x y : EReal) :
    Scalar.select (extractStridedSlice S32x128 ![mo, 0] Gen.k0_pay4 hm (ix2 r col)) x y = if mo + r.val ≤ col.val then x else y := by
  have h0 : mo + 32 ≤ 128 := hm.2 0
  have e : extractStridedSlice S32x128 ![mo, 0] Gen.k0_pay4 hm (ix2 r col) = Gen.k0_pay4 (ix2 ⟨mo + r.val, by omega⟩ col) := by
    refine congrArg Gen.k0_pay4 ?_
    funext a
    match a with
    | ⟨0, _⟩ => rfl
    | ⟨1, _⟩ => exact Fin.ext (Nat.zero_add _)
  rw [e]
  pointwise [Gen.k0_pay4]
  rw [WordCmp.cmpi_sle_ofNat (by omega) (by omega)]
  by_cases h : mo + r.val ≤ col.val <;> simp [h, Scalar.select]

/-- Two tiles of 128 columns side by side. -/
theorem concat_apply (x y : FVec Ideal S32x128 .f32) (h) (r : Fin 32) (col : Fin 256) :
    concatenate S32x256 1 [⟨S32x128, x⟩, ⟨S32x128, y⟩] h (ix2 r col)
      = if hc : col.val < 128 then x (ix2 r ⟨col.val, hc⟩) else y (ix2 r ⟨col.val - 128, by omega⟩) := by pointwise

/-- Two tiles of 128 columns make a chunk. -/
theorem concatenates : Shape.Concatenates [S32x128, S32x128] S32x256 1 := by decide

/-- A chunk in the upper half of the diagonal block: the left tile is masked. -/
theorem IsChunk.upper {w c : EReal} {o mo n D : ℕ} (hS : IsScore sc S) (ho : o = 32 * n) (hD : 32 * n = D + mo)
    (h : (⟨2, ![N, 256]⟩ : Shape).Slices ![o, 0] S32x256) (hm : S128x128.Slices ![mo, 0] S32x128) :
    IsChunk (masked w c sc D) n
      (concatenate S32x256 1
        [⟨S32x128, select (extractStridedSlice S32x128 ![mo, 0] Gen.k0_pay4 hm)
            (extractStridedSlice S32x128 ![0, 0]
              (exp2 (mulf (tanh (mulf (extractStridedSlice S32x256 ![o, 0] S h) (broadcast S32x256 w))) (broadcast S32x256 c))) (by decide))
            (broadcast S32x128 (Scalar.ofBits (F := Ideal) .f32 0x00000000#32))⟩,
          ⟨S32x128, extractStridedSlice S32x128 ![0, 128]
            (exp2 (mulf (tanh (mulf (extractStridedSlice S32x256 ![o, 0] S h) (broadcast S32x256 w))) (broadcast S32x256 c))) (by decide)⟩] concatenates) := by
  subst ho
  have h0 : mo + 32 ≤ 128 := hm.2 0
  intro r col
  have hw : IsScore (fun r' q => weight w c (sc (32 * n + r') q))
      (exp2 (mulf (tanh (mulf (extractStridedSlice S32x256 ![32 * n, 0] S h) (broadcast S32x256 w))) (broadcast S32x256 c))) :=
    fun r' q => (weight_apply w c hS h r' q).trans (by rw [Nat.zero_add])
  rw [concat_apply]
  split
  · rename_i hc
    refine (tri_apply hm r ⟨col.val, hc⟩ _ _).trans ?_
    rw [slice_apply hw _ r ⟨col.val, hc⟩, masked]
    have : mo + r.val ≤ col.val ↔ 32 * n + r.val ≤ D + col.val := by omega
    simp only [this, Nat.zero_add]
    congr 1
    exact Idealize.ShloMosaic.Ideal.ofBits_zero .f32
  · rename_i hc
    rw [slice_apply hw _ r ⟨col.val - 128, by omega⟩, masked, if_pos (by omega), Nat.zero_add]
    have hc : 128 + (col.val - 128) = col.val := by omega
    simp only [hc]

/-- A chunk in the lower half of the diagonal block: the left tile is zero and the right one masked. -/
theorem IsChunk.lower {w c : EReal} {o mo n D : ℕ} (hS : IsScore sc S) (ho : o = 32 * n) (hD : 32 * n = D + 128 + mo)
    (h : (⟨2, ![N, 256]⟩ : Shape).Slices ![o, 128] S32x128) (hm : S128x128.Slices ![mo, 0] S32x128) :
    IsChunk (masked w c sc D) n
      (concatenate S32x256 1
        [⟨S32x128, broadcast S32x128 (Scalar.ofBits (F := Ideal) .f32 0x00000000#32)⟩,
          ⟨S32x128, select (extractStridedSlice S32x128 ![mo, 0] Gen.k0_pay4 hm)
            (exp2 (mulf (tanh (mulf (extractStridedSlice S32x128 ![o, 128] S h) (broadcast S32x128 w))) (broadcast S32x128 c)))
            (broadcast S32x128 (Scalar.ofBits (F := Ideal) .f32 0x00000000#32))⟩] concatenates) := by
  subst ho
  have h0 : mo + 32 ≤ 128 := hm.2 0
  intro r col
  rw [concat_apply]
  split
  · rw [masked, if_neg (by omega)]
    exact Idealize.ShloMosaic.Ideal.ofBits_zero .f32
  · refine (tri_apply hm r ⟨col.val - 128, by omega⟩ _ _).trans ?_
    rw [weight_apply w c hS h r ⟨col.val - 128, by omega⟩, masked]
    have : mo + r.val ≤ col.val - 128 ↔ 32 * n + r.val ≤ D + col.val := by omega
    have hc : 128 + (col.val - 128) = col.val := by omega
    simp only [this, hc]
    congr 1
    exact Idealize.ShloMosaic.Ideal.ofBits_zero .f32

end Chunk

/-- An exponential `e` times its column's normalizer `ν`, clipped. -/
def quant (ν e : EReal) : EReal :=
  min (Scalar.ofBits (F := Ideal) .f32 0x43E00000#32) (max (Scalar.ofBits (F := Ideal) .f32 0xC3E00000#32) (e * ν))

/-- What the scratch of probabilities holds after `n` chunks. -/
def probs (G : ℕ → ℕ → EReal) (n key col : ℕ) : EReal := quant (normalizer G n col) (G key col)

/-- A chunk of quantized probabilities as it is stored: a chunk loaded from the scratch of exponentials, normalized and clipped. -/
theorem IsPiece.quant {b : Fin 2} {G : ℕ → ℕ → EReal} {n m : ℕ} {L : List (View.Piece (Elt Ideal) S2x2048x256 .f32)}
    {nrm : FVec Ideal S1x256 .f32} (hL : IsBuf (e := .f32) b G n L) (hν : IsNorm G n nrm)
    {sig : RefSig} {κ : Kind} {sp : Space} (v : View sig κ sp S2x2048x256 .f32) {b' o : ℕ} (hb : b' = b.val) (ho : o = 32 * m) (hm : m < n)
    (inb : ∀ a, (![b', o, 0] : Fin 3 → ℕ) a + S1x32x256.size a ≤ S2x2048x256.size a) (h1 h2 h3 h4) :
    IsPiece (e := .fp8e4m3) (probs G n) m
      (shapeCast S1x32x256 (truncf .fp8e4m3
        (minimumf (broadcast S32x256 (Scalar.ofBits (F := Ideal) .f32 0x43E00000#32))
          (maximumf (broadcast S32x256 (Scalar.ofBits (F := Ideal) .f32 0xC3E00000#32))
            (mulf (φ := .f32) (shapeCast S32x256 (v.readCov L (Rect.unit (s := S2x2048x256) ![b', o, 0] S1x32x256.size inb).toLoadRect) h1)
              (broadcastTo S32x256 nrm h2)))) h3) h4) := by
  intro r col
  have hl := hL.load v hb inb r col (by omega)
  have e : ∀ y : FVec Ideal S1x32x256 .f32,
      shapeCast S1x32x256 (truncf .fp8e4m3
        (minimumf (broadcast S32x256 (Scalar.ofBits (F := Ideal) .f32 0x43E00000#32))
          (maximumf (broadcast S32x256 (Scalar.ofBits (F := Ideal) .f32 0xC3E00000#32))
            (mulf (φ := .f32) (shapeCast S32x256 y h1) (broadcastTo S32x256 nrm h2)))) h3) h4 (ix3 0 r col)
        = Attn.quant (nrm (ix2 0 col)) (y (ix3 0 r col)) := by
    intro y
    pointwise [Attn.quant]
  refine (e _).trans ?_
  rw [hν col]
  subst ho
  exact congrArg (Attn.quant (normalizer G n col)) hl

/-- The scores of a query block: the keys' rows against the queries'. -/
theorem score_apply {N : ℕ} (q : FVec Ideal S1x256x128 .fp8e4m3) (k : FVec Ideal ⟨3, ![1, N, 128]⟩ .fp8e4m3) (h1 h2) (key : Fin N) (col : Fin 256) :
    matmul (DotDims.transposedRhs N 128 256) none (shapeCast ⟨2, ![N, 128]⟩ k h1) (shapeCast S256x128 q h2)
        (constant (F := Ideal) ⟨2, ![N, 256]⟩ .f32 0x00000000#32) (ix2 key col)
      = ∑ d : Fin 128, k (ix3 0 key d) * q (ix3 0 col d) := by
  refine (Idealize.ShloMosaic.Ideal.matmul_transposedRhs_apply none _ _ _ key col).trans ?_
  refine (congrArg (· + _) (Idealize.ShloMosaic.Ideal.ofBits_zero .f32)).trans ((zero_add _).trans ?_)
  refine Finset.sum_congr rfl fun d _ => ?_
  exact congrArg₂ (· * ·) (ValueIdx.shapeCast_1ab_ab_apply k h1 key d) (ValueIdx.shapeCast_1ab_ab_apply q h2 col d)

/-- The output of a query block: the quantized probabilities against the values, scaled and turned. -/
theorem out_apply {N : ℕ} (s : EReal) (vt : FVec Ideal ⟨4, ![1, 1, 128, N]⟩ .fp8e4m3) (p : FVec Ideal ⟨3, ![1, N, 256]⟩ .fp8e4m3) (h1 h2 h3 h4 h5)
    (row : Fin 256) (d : Fin 128) :
    shapeCast S1x256x128 (truncf (F := Ideal) .bf16 (transpose S256x128 [1, 0]
        (mulf (matmul (DotDims.plain 128 N 256) none (shapeCast ⟨2, ![128, N]⟩ vt h1) (shapeCast ⟨2, ![N, 256]⟩ p h2)
          (constant (F := Ideal) S128x256 .f32 0x00000000#32)) (broadcast S128x256 s)) h3) h4) h5 (ix3 0 row d)
      = (∑ key : Fin N, vt (ix4 0 0 d key) * p (ix3 0 key row)) * s := by
  refine (ValueIdx.shapeCast_ab_1ab_apply _ h5 0 row d).trans ?_
  refine Eq.trans (congrArg (· * s) (Idealize.ShloMosaic.Ideal.matmul_plain_apply none (shapeCast ⟨2, ![128, N]⟩ vt h1) (shapeCast ⟨2, ![N, 256]⟩ p h2)
    (constant (F := Ideal) S128x256 .f32 0x00000000#32) d row)) ?_
  refine (congrArg (fun z => (z + _) * s) (Idealize.ShloMosaic.Ideal.ofBits_zero .f32)).trans ((congrArg (· * s) (zero_add _)).trans ?_)
  refine congrArg (· * s) (Finset.sum_congr rfl fun key _ => ?_)
  refine congrArg₂ (· * ·) (shapeCast_apply vt h1 _ _ ?_) (ValueIdx.shapeCast_1ab_ab_apply p h2 key row)
  rw [Shape.rowMajor_val_four, Shape.rowMajor_val_two]
  show ((0 * 1 + 0) * 128 + d.val) * N + key.val = d.val * N + key.val
  simp

/-- The score of a key against a query row: the sum over the head's 128 coordinates. -/
def score (q k : S1x2048x128.Idx → EReal) (D key col : ℕ) : EReal :=
  ∑ d : Fin 128, k (ix3 0 (Fin.ofNat 2048 key) d) * q (ix3 0 (Fin.ofNat 2048 (D + col)) d)

/-- A load of rows of a window that holds `x`. -/
theorem readAt_rows {M o : ℕ} (m : Memref sig .tc .vmem S1x2048x128 .fp8e4m3) (h : m.IsWhole) (x : S1x2048x128.Idx → Elt Ideal .fp8e4m3)
    (inb : ∀ a, (![0, o, 0] : Fin 3 → ℕ) a + (![1, M, 128] : Fin 3 → ℕ) a ≤ S1x2048x128.size a) (r : Fin M) (d : Fin 128) :
    View.readAt (Elt Ideal) m.view (Rect.unit (s := S1x2048x128) ![0, o, 0] ![1, M, 128] inb).toLoadRect (h.unread x)
      (ix3 (0 : Fin 1) r d : (⟨3, ![1, M, 128]⟩ : Shape).Idx) = x (ix3 0 (Fin.ofNat 2048 (o + r)) d) := by
  have hi : o + r.val < 2048 := by
    have := inb 1
    change o + M ≤ 2048 at this
    omega
  rw [View.readAt_eq_ld, h.read_unread]
  refine congrArg x ?_
  funext a
  apply Fin.ext
  match a with
  | ⟨0, _⟩ => rfl
  | ⟨1, _⟩ => show o + 1 * r.val = (o + r.val) % 2048; rw [Nat.mod_eq_of_lt hi]; omega
  | ⟨2, _⟩ => show 0 + 1 * d.val = d.val; omega

/-- The scores of a query block, from the rows loaded for it. -/
theorem isScore_of_loads {N o : ℕ} (m6 m7 : Memref sig .tc .vmem S1x2048x128 .fp8e4m3) (h6 : m6.IsWhole) (h7 : m7.IsWhole)
    (q k : S1x2048x128.Idx → Elt Ideal .fp8e4m3)
    (inb : ∀ a, (![0, 0, 0] : Fin 3 → ℕ) a + (![1, N, 128] : Fin 3 → ℕ) a ≤ S1x2048x128.size a)
    (inb' : ∀ a, (![0, o, 0] : Fin 3 → ℕ) a + (![1, 256, 128] : Fin 3 → ℕ) a ≤ S1x2048x128.size a) (h1 h2) :
    IsScore (score q k o)
      (matmul (F := Ideal) (φ₁ := .fp8e4m3) (φ₂ := .fp8e4m3) (DotDims.transposedRhs N 128 256) none
        (shapeCast ⟨2, ![N, 128]⟩ (View.readAt (Elt Ideal) m7.view (Rect.unit (s := S1x2048x128) ![0, 0, 0] ![1, N, 128] inb).toLoadRect (h7.unread k)) h1)
        (shapeCast S256x128 (View.readAt (Elt Ideal) m6.view (Rect.unit (s := S1x2048x128) ![0, o, 0] ![1, 256, 128] inb').toLoadRect (h6.unread q)) h2)
        (constant (F := Ideal) ⟨2, ![N, 256]⟩ .f32 0x00000000#32)) := by
  intro key col
  refine (score_apply _ _ h1 h2 key col).trans (Finset.sum_congr rfl fun d _ => ?_)
  refine congrArg₂ (· * ·) ((readAt_rows m7 h7 k inb key d).trans ?_) (readAt_rows m6 h6 q inb' col d)
  rw [Nat.zero_add]

/-- The constant inside the kernel's base-two exponential. -/
def cap : EReal := Named.named (F := Ideal) (φ := .f32) κ "cap_log2e" 0x429044FE#32

/-- A load of the first `N` columns of the window of values. -/
theorem readAt_cols {N : ℕ} (m : Memref sig .tc .vmem S1x1x128x2048 .fp8e4m3) (h : m.IsWhole) (x : S1x1x128x2048.Idx → Elt Ideal .fp8e4m3)
    (inb : ∀ a, (![0, 0, 0, 0] : Fin 4 → ℕ) a + (![1, 1, 128, N] : Fin 4 → ℕ) a ≤ S1x1x128x2048.size a) (d : Fin 128) (key : Fin N) :
    View.readAt (Elt Ideal) m.view (Rect.unit (s := S1x1x128x2048) ![0, 0, 0, 0] ![1, 1, 128, N] inb).toLoadRect (h.unread x)
      (ix4 (0 : Fin 1) (0 : Fin 1) d key : (⟨4, ![1, 1, 128, N]⟩ : Shape).Idx) = x (ix4 0 0 d (Fin.ofNat 2048 key)) := by
  have hi : key.val < 2048 := by
    have := inb 3
    change 0 + N ≤ 2048 at this
    omega
  rw [View.readAt_eq_ld, h.read_unread]
  refine congrArg x ?_
  funext a
  apply Fin.ext
  match a with
  | ⟨0, _⟩ => rfl
  | ⟨1, _⟩ => rfl
  | ⟨2, _⟩ => show 0 + 1 * d.val = d.val; omega
  | ⟨3, _⟩ => show 0 + 1 * key.val = key.val % 2048; rw [Nat.mod_eq_of_lt hi]; omega

/-- What the exponentials of query block `n` are: weights of the keys up to each query, zero after it. -/
def blockExp (w : EReal) (q k : S1x2048x128.Idx → EReal) (n : ℕ) : ℕ → ℕ → EReal := masked w cap (score q k (256 * n)) (256 * n)

/-- The output of query block `n` at one of its rows and a coordinate of the head. -/
def blockOut (w s : EReal) (q k : S1x2048x128.Idx → EReal) (v : S1x1x128x2048.Idx → EReal) (n row : ℕ) (d : Fin 128) : EReal :=
  (∑ key ∈ Finset.range (256 * n + 256), v (ix4 0 0 d (Fin.ofNat 2048 key)) * probs (blockExp w q k n) (8 * n + 8) key row) * s

/-- A block of 256 output rows holds the output of query block `n`. -/
def IsOutBlock (w s : EReal) (q k : S1x2048x128.Idx → EReal) (v : S1x1x128x2048.Idx → EReal) (n : ℕ) (x : S1x256x128.Idx → Elt Ideal .bf16) : Prop :=
  ∀ (row : Fin 256) (d : Fin 128), x (ix3 0 row d) = blockOut w s q k v n row d

/-- A block of output as it is stored: the values against the probabilities loaded from the scratch, scaled and turned. -/
theorem IsOutBlock.of_probs {w s : EReal} {q k : S1x2048x128.Idx → EReal} {vt : S1x1x128x2048.Idx → Elt Ideal .fp8e4m3} {n m N : ℕ} {b : Fin 2}
    {L : List (View.Piece (Elt Ideal) S2x2048x256 .fp8e4m3)} (hP : IsBuf (e := .fp8e4m3) b (probs (blockExp w q k n) m) m L)
    (hm : m = 8 * n + 8) (hN : N = 256 * n + 256)
    (m8 : Memref sig .tc .vmem S1x1x128x2048 .fp8e4m3) (h8 : m8.IsWhole) {sg : RefSig} {kd : Kind} {sp : Space} (v : View sg kd sp S2x2048x256 .fp8e4m3)
    {b' : ℕ} (hb : b' = b.val)
    (inb : ∀ a, (![b', 0, 0] : Fin 3 → ℕ) a + (![1, N, 256] : Fin 3 → ℕ) a ≤ S2x2048x256.size a)
    (inb' : ∀ a, (![0, 0, 0, 0] : Fin 4 → ℕ) a + (![1, 1, 128, N] : Fin 4 → ℕ) a ≤ S1x1x128x2048.size a) (h1 h2 h3 h4 h5) :
    IsOutBlock w s q k vt n
      (shapeCast S1x256x128 (truncf (F := Ideal) .bf16 (transpose S256x128 [1, 0]
        (mulf (matmul (φ₁ := .fp8e4m3) (φ₂ := .fp8e4m3) (DotDims.plain 128 N 256) none
          (shapeCast ⟨2, ![128, N]⟩ (View.readAt (Elt Ideal) m8.view (Rect.unit (s := S1x1x128x2048) ![0, 0, 0, 0] ![1, 1, 128, N] inb').toLoadRect (h8.unread vt)) h1)
          (shapeCast ⟨2, ![N, 256]⟩ (v.readCov L (Rect.unit (s := S2x2048x256) ![b', 0, 0] ![1, N, 256] inb).toLoadRect) h2)
          (constant (F := Ideal) S128x256 .f32 0x00000000#32)) (broadcast S128x256 s)) h3) h4) h5) := by
  intro row d
  refine (out_apply s _ _ h1 h2 h3 h4 h5 row d).trans ?_
  subst hm
  rw [blockOut, ← hN, Finset.sum_range]
  refine congrArg (· * s) (Finset.sum_congr rfl fun key _ => ?_)
  exact congrArg₂ (· * ·) (readAt_cols m8 h8 vt inb' d key) (hP.loadAll v hb (by omega) inb key row)

/-- The first `n` blocks of output rows, after the stores `L`, hold the output. -/
def IsOut (w s : EReal) (q k : S1x2048x128.Idx → EReal) (v : S1x1x128x2048.Idx → EReal) (n : ℕ) (L : List (View.Piece (Elt Ideal) S1x2048x128 .bf16)) : Prop :=
  ∀ (row : Fin 2048) (d : Fin 128), row.val < 256 * n → View.canon L (ix3 0 row d) = blockOut w s q k v (row.val / 256) (row.val % 256) d

/-- No block is asked of any stores. -/
theorem IsOut.nil {w s : EReal} {q k : S1x2048x128.Idx → EReal} {v : S1x1x128x2048.Idx → EReal} {L : List (View.Piece (Elt Ideal) S1x2048x128 .bf16)} :
    IsOut w s q k v 0 L := fun _ _ h => absurd h (by omega)

/-- One more block stored. -/
theorem IsOut.step {w s : EReal} {q k : S1x2048x128.Idx → EReal} {v : S1x1x128x2048.Idx → EReal} {n o : ℕ}
    {L : List (View.Piece (Elt Ideal) S1x2048x128 .bf16)} (hL : IsOut w s q k v n L) (ho : o = 256 * n)
    (inb : ∀ a, (![0, o, 0] : Fin 3 → ℕ) a + S1x256x128.size a ≤ S1x2048x128.size a)
    (x : S1x256x128.Idx → Elt Ideal .bf16) (hx : IsOutBlock w s q k v n x) :
    IsOut w s q k v (n + 1) (⟨Rect.unit (s := S1x2048x128) ![0, o, 0] S1x256x128.size inb, x⟩ :: L) := by
  intro row d hr
  by_cases h : row.val < 256 * n
  · rw [View.canon_cons_of_not_mem, hL row d h]
    rw [Rect.mem_set_unit]
    intro hm
    have := (hm 1).1
    change o ≤ row.val at this
    omega
  · have hk : row.val - 256 * n < 256 := by omega
    have hidx : (ix3 0 row d : S1x2048x128.Idx)
        = (Rect.unit (s := S1x2048x128) ![0, o, 0] S1x256x128.size inb).emb (ix3 (0 : Fin 1) ⟨row.val - 256 * n, hk⟩ d : S1x256x128.Idx) := by
      funext a
      apply Fin.ext
      match a with
      | ⟨0, _⟩ => rfl
      | ⟨1, _⟩ => show row.val = o + 1 * (row.val - 256 * n); omega
      | ⟨2, _⟩ => show d.val = 0 + 1 * d.val; omega
    rw [hidx]
    refine (View.canon_cons_emb (Val := Elt Ideal) (Rect.unit (s := S1x2048x128) ![0, o, 0] S1x256x128.size inb) x L _).trans ?_
    rw [hx, show row.val / 256 = n by omega, show row.val % 256 = row.val - 256 * n by omega]

end Cert.Attn

end
-- ==== Proof.Blocks.lean ====
/- The kernel's run, query block by query block: the names it gives to what a block computes hold the scores, the exponentials, the
   normalizers and the quantized probabilities of that block. -/
module

public import proofs.«01_k».proof.Proof.Chunks

@[expose] public section

set_option maxRecDepth 16384

noncomputable section

namespace Cert.Attn

open Cert.KernelIdeal Cert.KernelIdeal.Gen Idealize.ShloMosaic Idealize.ShloMosaic.TcCoe Cert.KernelIdeal.Gen.kernelRun0_A

section
variable (c : Dev nD) (i : grid0.Coords)
  (arg3 : Memref sig .tc .smem S64 .f32) (harg3 : arg3.IsWhole) (arg4 : Memref sig .tc .smem S8 .f32) (harg4 : arg4.IsWhole)
  (arg6 : Memref sig .tc .vmem S1x2048x128 .fp8e4m3) (harg6 : arg6.IsWhole) (arg7 : Memref sig .tc .vmem S1x2048x128 .fp8e4m3) (harg7 : arg7.IsWhole)
  (arg10 : Memref sig .tc .vmem S2x2048x256 .f32) (arg11 : Memref sig .tc .vmem S2x2048x256 .fp8e4m3)
  (x0 : Vec Ideal S64 .f32) (x1 : Vec Ideal S8 .f32) (x3 : Vec Ideal S1x2048x128 .fp8e4m3) (x4 : Vec Ideal S1x2048x128 .fp8e4m3)

/-- Query block 0: the scores. -/
theorem score0 : IsScore (score x3 x4 (256 * 0)) (sl.r_5 (F := Ideal) c arg6 harg6 arg7 harg7 x3 x4) :=
  isScore_of_loads arg6 arg7 harg6 harg7 x3 x4 _ _ _ _

/-- Query block 0: the exponentials. -/
theorem exps0 : IsBuf (e := .f32) 0 (blockExp (sl.r_3 (F := Ideal) c i arg3 harg3 arg4 harg4 x0 x1) x3 x4 0) 8
    (sl.HS0_8 (F := Ideal) c i arg3 harg3 arg4 harg4 arg6 harg6 arg7 harg7 x0 x1 x3 x4) := by
  have hS := score0 c arg6 harg6 arg7 harg7 x3 x4
  iterate 4 refine IsBuf.step ?_ (by rfl) (by rfl) _ _ ((IsChunk.lower hS (by rfl) (by rfl) (by decide) (by decide)).piece _)
  iterate 4 refine IsBuf.step ?_ (by rfl) (by rfl) _ _ ((IsChunk.upper hS (by rfl) (by rfl) (by decide) (by decide)).piece _)
  exact IsBuf.nil

/-- Query block 0: the normalizers. -/
theorem norm0 : IsNorm (blockExp (sl.r_3 (F := Ideal) c i arg3 harg3 arg4 harg4 x0 x1) x3 x4 0) 8
    (sl.r_12 (F := Ideal) c i arg3 harg3 arg4 harg4 arg6 harg6 arg7 harg7 x0 x1 x3 x4) := by
  have hS := score0 c arg6 harg6 arg7 harg7 x3 x4
  refine IsNorm.of_acc ?_ (by decide) (by decide) (by rfl) (by decide)
  iterate 4 refine IsAcc.step ?_ (IsChunk.lower hS (by rfl) (by rfl) (by decide) (by decide))
  iterate 4 refine IsAcc.step ?_ (IsChunk.upper hS (by rfl) (by rfl) (by decide) (by decide))
  exact IsAcc.zero

/-- Query block 0: the quantized probabilities. -/
theorem probs0 : IsBuf (e := .fp8e4m3) 0 (probs (blockExp (sl.r_3 (F := Ideal) c i arg3 harg3 arg4 harg4 x0 x1) x3 x4 0) 8) 8
    (sl.HS1_8 (F := Ideal) c i arg3 harg3 arg4 harg4 arg6 harg6 arg7 harg7 arg10 x0 x1 x3 x4) := by
  have hE := exps0 c i arg3 harg3 arg4 harg4 arg6 harg6 arg7 harg7 x0 x1 x3 x4
  have hN := norm0 c i arg3 harg3 arg4 harg4 arg6 harg6 arg7 harg7 x0 x1 x3 x4
  iterate 8 refine IsBuf.step ?_ (by rfl) (by rfl) _ _ (IsPiece.quant hE hN arg10.view (by rfl) (by rfl) (by decide) (by decide) (by decide) (by decide) (by decide) (by decide))
  exact IsBuf.nil

/-- Query block 1: the scores. -/
theorem score1 : IsScore (score x3 x4 (256 * 1)) (sl.r_14 (F := Ideal) c arg6 harg6 arg7 harg7 x3 x4) :=
  isScore_of_loads arg6 arg7 harg6 harg7 x3 x4 _ _ _ _

/-- Query block 1: the exponentials. -/
theorem exps1 : IsBuf (e := .f32) 1 (blockExp (sl.r_3 (F := Ideal) c i arg3 harg3 arg4 harg4 x0 x1) x3 x4 1) 16
    (sl.HS0_24 (F := Ideal) c i arg3 harg3 arg4 harg4 arg6 harg6 arg7 harg7 x0 x1 x3 x4) := by
  have hS := score1 c arg6 harg6 arg7 harg7 x3 x4
  iterate 4 refine IsBuf.step ?_ (by rfl) (by rfl) _ _ ((IsChunk.lower hS (by rfl) (by rfl) (by decide) (by decide)).piece _)
  iterate 4 refine IsBuf.step ?_ (by rfl) (by rfl) _ _ ((IsChunk.upper hS (by rfl) (by rfl) (by decide) (by decide)).piece _)
  iterate 8 refine IsBuf.step ?_ (by rfl) (by rfl) _ _ ((IsChunk.full hS (by rfl) (by decide) (by decide)).piece _)
  exact IsBuf.nil

/-- Query block 1: the normalizers. -/
theorem norm1 : IsNorm (blockExp (sl.r_3 (F := Ideal) c i arg3 harg3 arg4 harg4 x0 x1) x3 x4 1) 16
    (sl.r_24 (F := Ideal) c i arg3 harg3 arg4 harg4 arg6 harg6 arg7 harg7 x0 x1 x3 x4) := by
  have hS := score1 c arg6 harg6 arg7 harg7 x3 x4
  refine IsNorm.of_acc ?_ (by decide) (by decide) (by rfl) (by decide)
  iterate 4 refine IsAcc.step ?_ (IsChunk.lower hS (by rfl) (by rfl) (by decide) (by decide))
  iterate 4 refine IsAcc.step ?_ (IsChunk.upper hS (by rfl) (by rfl) (by decide) (by decide))
  iterate 8 refine IsAcc.step ?_ (IsChunk.full hS (by rfl) (by decide) (by decide))
  exact IsAcc.zero

/-- Query block 1: the quantized probabilities. -/
theorem probs1 : IsBuf (e := .fp8e4m3) 1 (probs (blockExp (sl.r_3 (F := Ideal) c i arg3 harg3 arg4 harg4 x0 x1) x3 x4 1) 16) 16
    (sl.HS1_24 (F := Ideal) c i arg3 harg3 arg4 harg4 arg6 harg6 arg7 harg7 arg10 x0 x1 x3 x4) := by
  have hE := exps1 c i arg3 harg3 arg4 harg4 arg6 harg6 arg7 harg7 x0 x1 x3 x4
  have hN := norm1 c i arg3 harg3 arg4 harg4 arg6 harg6 arg7 harg7 x0 x1 x3 x4
  iterate 16 refine IsBuf.step ?_ (by rfl) (by rfl) _ _ (IsPiece.quant hE hN arg10.view (by rfl) (by rfl) (by decide) (by decide) (by decide) (by decide) (by decide) (by decide))
  exact IsBuf.nil

/-- Query block 2: the scores. -/
theorem score2 : IsScore (score x3 x4 (256 * 2)) (sl.r_26 (F := Ideal) c arg6 harg6 arg7 harg7 x3 x4) :=
  isScore_of_loads arg6 arg7 harg6 harg7 x3 x4 _ _ _ _

/-- Query block 2: the exponentials. -/
theorem exps2 : IsBuf (e := .f32) 0 (blockExp (sl.r_3 (F := Ideal) c i arg3 harg3 arg4 harg4 x0 x1) x3 x4 2) 24
    (sl.HS0_48 (F := Ideal) c i arg3 harg3 arg4 harg4 arg6 harg6 arg7 harg7 x0 x1 x3 x4) := by
  have hS := score2 c arg6 harg6 arg7 harg7 x3 x4
  iterate 4 refine IsBuf.step ?_ (by rfl) (by rfl) _ _ ((IsChunk.lower hS (by rfl) (by rfl) (by decide) (by decide)).piece _)
  iterate 4 refine IsBuf.step ?_ (by rfl) (by rfl) _ _ ((IsChunk.upper hS (by rfl) (by rfl) (by decide) (by decide)).piece _)
  iterate 16 refine IsBuf.step ?_ (by rfl) (by rfl) _ _ ((IsChunk.full hS (by rfl) (by decide) (by decide)).piece _)
  exact IsBuf.nil

/-- Query block 2: the normalizers. -/
theorem norm2 : IsNorm (blockExp (sl.r_3 (F := Ideal) c i arg3 harg3 arg4 harg4 x0 x1) x3 x4 2) 24
    (sl.v1016 (F := Ideal) c i arg3 harg3 arg4 harg4 arg6 harg6 arg7 harg7 x0 x1 x3 x4) := by
  have hS := score2 c arg6 harg6 arg7 harg7 x3 x4
  refine IsNorm.of_acc ?_ (by decide) (by decide) (by rfl) (by decide)
  iterate 4 refine IsAcc.step ?_ (IsChunk.lower hS (by rfl) (by rfl) (by decide) (by decide))
  iterate 4 refine IsAcc.step ?_ (IsChunk.upper hS (by rfl) (by rfl) (by decide) (by decide))
  iterate 16 refine IsAcc.step ?_ (IsChunk.full hS (by rfl) (by decide) (by decide))
  exact IsAcc.zero

/-- Query block 2: the quantized probabilities. -/
theorem probs2 : IsBuf (e := .fp8e4m3) 0 (probs (blockExp (sl.r_3 (F := Ideal) c i arg3 harg3 arg4 harg4 x0 x1) x3 x4 2) 24) 24
    (sl.HS1_48 (F := Ideal) c i arg3 harg3 arg4 harg4 arg6 harg6 arg7 harg7 arg10 x0 x1 x3 x4) := by
  have hE := exps2 c i arg3 harg3 arg4 harg4 arg6 harg6 arg7 harg7 x0 x1 x3 x4
  have hN := norm2 c i arg3 harg3 arg4 harg4 arg6 harg6 arg7 harg7 x0 x1 x3 x4
  iterate 24 refine IsBuf.step ?_ (by rfl) (by rfl) _ _ (IsPiece.quant hE hN arg10.view (by rfl) (by rfl) (by decide) (by decide) (by decide) (by decide) (by decide) (by decide))
  exact IsBuf.nil

/-- Query block 3: the scores. -/
theorem score3 : IsScore (score x3 x4 (256 * 3)) (sl.r_42 (F := Ideal) c arg6 harg6 arg7 harg7 x3 x4) :=
  isScore_of_loads arg6 arg7 harg6 harg7 x3 x4 _ _ _ _

/-- Query block 3: the exponentials. -/
theorem exps3 : IsBuf (e := .f32) 1 (blockExp (sl.r_3 (F := Ideal) c i arg3 harg3 arg4 harg4 x0 x1) x3 x4 3) 32
    (sl.HS0_80 (F := Ideal) c i arg3 harg3 arg4 harg4 arg6 harg6 arg7 harg7 x0 x1 x3 x4) := by
  have hS := score3 c arg6 harg6 arg7 harg7 x3 x4
  iterate 4 refine IsBuf.step ?_ (by rfl) (by rfl) _ _ ((IsChunk.lower hS (by rfl) (by rfl) (by decide) (by decide)).piece _)
  iterate 4 refine IsBuf.step ?_ (by rfl) (by rfl) _ _ ((IsChunk.upper hS (by rfl) (by rfl) (by decide) (by decide)).piece _)
  iterate 24 refine IsBuf.step ?_ (by rfl) (by rfl) _ _ ((IsChunk.full hS (by rfl) (by decide) (by decide)).piece _)
  exact IsBuf.nil

/-- Query block 3: the normalizers. -/
theorem norm3 : IsNorm (blockExp (sl.r_3 (F := Ideal) c i arg3 harg3 arg4 harg4 x0 x1) x3 x4 3) 32
    (sl.r_59 (F := Ideal) c i arg3 harg3 arg4 harg4 arg6 harg6 arg7 harg7 x0 x1 x3 x4) := by
  have hS := score3 c arg6 harg6 arg7 harg7 x3 x4
  refine IsNorm.of_acc ?_ (by decide) (by decide) (by rfl) (by decide)
  iterate 4 refine IsAcc.step ?_ (IsChunk.lower hS (by rfl) (by rfl) (by decide) (by decide))
  iterate 4 refine IsAcc.step ?_ (IsChunk.upper hS (by rfl) (by rfl) (by decide) (by decide))
  iterate 24 refine IsAcc.step ?_ (IsChunk.full hS (by rfl) (by decide) (by decide))
  exact IsAcc.zero

/-- Query block 3: the quantized probabilities. -/
theorem probs3 : IsBuf (e := .fp8e4m3) 1 (probs (blockExp (sl.r_3 (F := Ideal) c i arg3 harg3 arg4 harg4 x0 x1) x3 x4 3) 32) 32
    (sl.HS1_80 (F := Ideal) c i arg3 harg3 arg4 harg4 arg6 harg6 arg7 harg7 arg10 x0 x1 x3 x4) := by
  have hE := exps3 c i arg3 harg3 arg4 harg4 arg6 harg6 arg7 harg7 x0 x1 x3 x4
  have hN := norm3 c i arg3 harg3 arg4 harg4 arg6 harg6 arg7 harg7 x0 x1 x3 x4
  iterate 32 refine IsBuf.step ?_ (by rfl) (by rfl) _ _ (IsPiece.quant hE hN arg10.view (by rfl) (by rfl) (by decide) (by decide) (by decide) (by decide) (by decide) (by decide))
  exact IsBuf.nil

/-- Query block 4: the scores. -/
theorem score4 : IsScore (score x3 x4 (256 * 4)) (sl.r_61 (F := Ideal) c arg6 harg6 arg7 harg7 x3 x4) :=
  isScore_of_loads arg6 arg7 harg6 harg7 x3 x4 _ _ _ _

/-- Query block 4: the exponentials. -/
theorem exps4 : IsBuf (e := .f32) 0 (blockExp (sl.r_3 (F := Ideal) c i arg3 harg3 arg4 harg4 x0 x1) x3 x4 4) 40
    (sl.HS0_120 (F := Ideal) c i arg3 harg3 arg4 harg4 arg6 harg6 arg7 harg7 x0 x1 x3 x4) := by
  have hS := score4 c arg6 harg6 arg7 harg7 x3 x4
  iterate 4 refine IsBuf.step ?_ (by rfl) (by rfl) _ _ ((IsChunk.lower hS (by rfl) (by rfl) (by decide) (by decide)).piece _)
  iterate 4 refine IsBuf.step ?_ (by rfl) (by rfl) _ _ ((IsChunk.upper hS (by rfl) (by rfl) (by decide) (by decide)).piece _)
  iterate 32 refine IsBuf.step ?_ (by rfl) (by rfl) _ _ ((IsChunk.full hS (by rfl) (by decide) (by decide)).piece _)
  exact IsBuf.nil

/-- Query block 4: the normalizers. -/
theorem norm4 : IsNorm (blockExp (sl.r_3 (F := Ideal) c i arg3 harg3 arg4 harg4 x0 x1) x3 x4 4) 40
    (sl.v2612 (F := Ideal) c i arg3 harg3 arg4 harg4 arg6 harg6 arg7 harg7 x0 x1 x3 x4) := by
  have hS := score4 c arg6 harg6 arg7 harg7 x3 x4
  refine IsNorm.of_acc ?_ (by decide) (by decide) (by rfl) (by decide)
  iterate 4 refine IsAcc.step ?_ (IsChunk.lower hS (by rfl) (by rfl) (by decide) (by decide))
  iterate 4 refine IsAcc.step ?_ (IsChunk.upper hS (by rfl) (by rfl) (by decide) (by decide))
  iterate 32 refine IsAcc.step ?_ (IsChunk.full hS (by rfl) (by decide) (by decide))
  exact IsAcc.zero

/-- Query block 4: the quantized probabilities. -/
theorem probs4 : IsBuf (e := .fp8e4m3) 0 (probs (blockExp (sl.r_3 (F := Ideal) c i arg3 harg3 arg4 harg4 x0 x1) x3 x4 4) 40) 40
    (sl.HS1_120 (F := Ideal) c i arg3 harg3 arg4 harg4 arg6 harg6 arg7 harg7 arg10 x0 x1 x3 x4) := by
  have hE := exps4 c i arg3 harg3 arg4 harg4 arg6 harg6 arg7 harg7 x0 x1 x3 x4
  have hN := norm4 c i arg3 harg3 arg4 harg4 arg6 harg6 arg7 harg7 x0 x1 x3 x4
  iterate 40 refine IsBuf.step ?_ (by rfl) (by rfl) _ _ (IsPiece.quant hE hN arg10.view (by rfl) (by rfl) (by decide) (by decide) (by decide) (by decide) (by decide) (by decide))
  exact IsBuf.nil

/-- Query block 5: the scores. -/
theorem score5 : IsScore (score x3 x4 (256 * 5)) (sl.v3109 (F := Ideal) c arg6 harg6 arg7 harg7 x3 x4) :=
  isScore_of_loads arg6 arg7 harg6 harg7 x3 x4 _ _ _ _

/-- Query block 5: the exponentials. -/
theorem exps5 : IsBuf (e := .f32) 1 (blockExp (sl.r_3 (F := Ideal) c i arg3 harg3 arg4 harg4 x0 x1) x3 x4 5) 48
    (sl.HS0_168 (F := Ideal) c i arg3 harg3 arg4 harg4 arg6 harg6 arg7 harg7 x0 x1 x3 x4) := by
  have hS := score5 c arg6 harg6 arg7 harg7 x3 x4
  iterate 4 refine IsBuf.step ?_ (by rfl) (by rfl) _ _ ((IsChunk.lower hS (by rfl) (by rfl) (by decide) (by decide)).piece _)
  iterate 4 refine IsBuf.step ?_ (by rfl) (by rfl) _ _ ((IsChunk.upper hS (by rfl) (by rfl) (by decide) (by decide)).piece _)
  iterate 40 refine IsBuf.step ?_ (by rfl) (by rfl) _ _ ((IsChunk.full hS (by rfl) (by decide) (by decide)).piece _)
  exact IsBuf.nil

/-- Query block 5: the normalizers. -/
theorem norm5 : IsNorm (blockExp (sl.r_3 (F := Ideal) c i arg3 harg3 arg4 harg4 x0 x1) x3 x4 5) 48
    (sl.r_107 (F := Ideal) c i arg3 harg3 arg4 harg4 arg6 harg6 arg7 harg7 x0 x1 x3 x4) := by
  have hS := score5 c arg6 harg6 arg7 harg7 x3 x4
  refine IsNorm.of_acc ?_ (by decide) (by decide) (by rfl) (by decide)
  iterate 4 refine IsAcc.step ?_ (IsChunk.lower hS (by rfl) (by rfl) (by decide) (by decide))
  iterate 4 refine IsAcc.step ?_ (IsChunk.upper hS (by rfl) (by rfl) (by decide) (by decide))
  iterate 40 refine IsAcc.step ?_ (IsChunk.full hS (by rfl) (by decide) (by decide))
  exact IsAcc.zero

/-- Query block 5: the quantized probabilities. -/
theorem probs5 : IsBuf (e := .fp8e4m3) 1 (probs (blockExp (sl.r_3 (F := Ideal) c i arg3 harg3 arg4 harg4 x0 x1) x3 x4 5) 48) 48
    (sl.HS1_168 (F := Ideal) c i arg3 harg3 arg4 harg4 arg6 harg6 arg7 harg7 arg10 x0 x1 x3 x4) := by
  have hE := exps5 c i arg3 harg3 arg4 harg4 arg6 harg6 arg7 harg7 x0 x1 x3 x4
  have hN := norm5 c i arg3 harg3 arg4 harg4 arg6 harg6 arg7 harg7 x0 x1 x3 x4
  iterate 48 refine IsBuf.step ?_ (by rfl) (by rfl) _ _ (IsPiece.quant hE hN arg10.view (by rfl) (by rfl) (by decide) (by decide) (by decide) (by decide) (by decide) (by decide))
  exact IsBuf.nil

/-- Query block 6: the scores. -/
theorem score6 : IsScore (score x3 x4 (256 * 6)) (sl.r_109 (F := Ideal) c arg6 harg6 arg7 harg7 x3 x4) :=
  isScore_of_loads arg6 arg7 harg6 harg7 x3 x4 _ _ _ _

/-- Query block 6: the exponentials. -/
theorem exps6 : IsBuf (e := .f32) 0 (blockExp (sl.r_3 (F := Ideal) c i arg3 harg3 arg4 harg4 x0 x1) x3 x4 6) 56
    (sl.HS0_224 (F := Ideal) c i arg3 harg3 arg4 harg4 arg6 harg6 arg7 harg7 x0 x1 x3 x4) := by
  have hS := score6 c arg6 harg6 arg7 harg7 x3 x4
  iterate 4 refine IsBuf.step ?_ (by rfl) (by rfl) _ _ ((IsChunk.lower hS (by rfl) (by rfl) (by decide) (by decide)).piece _)
  iterate 4 refine IsBuf.step ?_ (by rfl) (by rfl) _ _ ((IsChunk.upper hS (by rfl) (by rfl) (by decide) (by decide)).piece _)
  iterate 48 refine IsBuf.step ?_ (by rfl) (by rfl) _ _ ((IsChunk.full hS (by rfl) (by decide) (by decide)).piece _)
  exact IsBuf.nil

/-- Query block 6: the normalizers. -/
theorem norm6 : IsNorm (blockExp (sl.r_3 (F := Ideal) c i arg3 harg3 arg4 harg4 x0 x1) x3 x4 6) 56
    (sl.v4944 (F := Ideal) c i arg3 harg3 arg4 harg4 arg6 harg6 arg7 harg7 x0 x1 x3 x4) := by
  have hS := score6 c arg6 harg6 arg7 harg7 x3 x4
  refine IsNorm.of_acc ?_ (by decide) (by decide) (by rfl) (by decide)
  iterate 4 refine IsAcc.step ?_ (IsChunk.lower hS (by rfl) (by rfl) (by decide) (by decide))
  iterate 4 refine IsAcc.step ?_ (IsChunk.upper hS (by rfl) (by rfl) (by decide) (by decide))
  iterate 48 refine IsAcc.step ?_ (IsChunk.full hS (by rfl) (by decide) (by decide))
  exact IsAcc.zero

/-- Query block 6: the quantized probabilities. -/
theorem probs6 : IsBuf (e := .fp8e4m3) 0 (probs (blockExp (sl.r_3 (F := Ideal) c i arg3 harg3 arg4 harg4 x0 x1) x3 x4 6) 56) 56
    (sl.HS1_224 (F := Ideal) c i arg3 harg3 arg4 harg4 arg6 harg6 arg7 harg7 arg10 x0 x1 x3 x4) := by
  have hE := exps6 c i arg3 harg3 arg4 harg4 arg6 harg6 arg7 harg7 x0 x1 x3 x4
  have hN := norm6 c i arg3 harg3 arg4 harg4 arg6 harg6 arg7 harg7 x0 x1 x3 x4
  iterate 56 refine IsBuf.step ?_ (by rfl) (by rfl) _ _ (IsPiece.quant hE hN arg10.view (by rfl) (by rfl) (by decide) (by decide) (by decide) (by decide) (by decide) (by decide))
  exact IsBuf.nil

/-- Query block 7: the scores. -/
theorem score7 : IsScore (score x3 x4 (256 * 7)) (sl.r_139 (F := Ideal) c arg6 harg6 arg7 harg7 x3 x4) :=
  isScore_of_loads arg6 arg7 harg6 harg7 x3 x4 _ _ _ _

/-- Query block 7: the exponentials. -/
theorem exps7 : IsBuf (e := .f32) 1 (blockExp (sl.r_3 (F := Ideal) c i arg3 harg3 arg4 harg4 x0 x1) x3 x4 7) 64
    (sl.HS0_288 (F := Ideal) c i arg3 harg3 arg4 harg4 arg6 harg6 arg7 harg7 x0 x1 x3 x4) := by
  have hS := score7 c arg6 harg6 arg7 harg7 x3 x4
  iterate 4 refine IsBuf.step ?_ (by rfl) (by rfl) _ _ ((IsChunk.lower hS (by rfl) (by rfl) (by decide) (by decide)).piece _)
  iterate 4 refine IsBuf.step ?_ (by rfl) (by rfl) _ _ ((IsChunk.upper hS (by rfl) (by rfl) (by decide) (by decide)).piece _)
  iterate 56 refine IsBuf.step ?_ (by rfl) (by rfl) _ _ ((IsChunk.full hS (by rfl) (by decide) (by decide)).piece _)
  exact IsBuf.nil

/-- Query block 7: the normalizers. -/
theorem norm7 : IsNorm (blockExp (sl.r_3 (F := Ideal) c i arg3 harg3 arg4 harg4 x0 x1) x3 x4 7) 64
    (sl.r_172 (F := Ideal) c i arg3 harg3 arg4 harg4 arg6 harg6 arg7 harg7 x0 x1 x3 x4) := by
  have hS := score7 c arg6 harg6 arg7 harg7 x3 x4
  refine IsNorm.of_acc ?_ (by decide) (by decide) (by rfl) (by decide)
  iterate 4 refine IsAcc.step ?_ (IsChunk.lower hS (by rfl) (by rfl) (by decide) (by decide))
  iterate 4 refine IsAcc.step ?_ (IsChunk.upper hS (by rfl) (by rfl) (by decide) (by decide))
  iterate 56 refine IsAcc.step ?_ (IsChunk.full hS (by rfl) (by decide) (by decide))
  exact IsAcc.zero

/-- Query block 7: the quantized probabilities. -/
theorem probs7 : IsBuf (e := .fp8e4m3) 1 (probs (blockExp (sl.r_3 (F := Ideal) c i arg3 harg3 arg4 harg4 x0 x1) x3 x4 7) 64) 64
    (sl.HS1_288 (F := Ideal) c i arg3 harg3 arg4 harg4 arg6 harg6 arg7 harg7 arg10 x0 x1 x3 x4) := by
  have hE := exps7 c i arg3 harg3 arg4 harg4 arg6 harg6 arg7 harg7 x0 x1 x3 x4
  have hN := norm7 c i arg3 harg3 arg4 harg4 arg6 harg6 arg7 harg7 x0 x1 x3 x4
  iterate 64 refine IsBuf.step ?_ (by rfl) (by rfl) _ _ (IsPiece.quant hE hN arg10.view (by rfl) (by rfl) (by decide) (by decide) (by decide) (by decide) (by decide) (by decide))
  exact IsBuf.nil

/-- What the kernel's body leaves in its output window, at any row and coordinate. -/
theorem out_apply_blocks (arg5 : Memref sig .tc .smem S8 .f32) (harg5 : arg5.IsWhole) (arg8 : Memref sig .tc .vmem S1x1x128x2048 .fp8e4m3) (harg8 : arg8.IsWhole)
    (arg9 : Memref sig .tc .vmem S1x2048x128 .bf16) (harg9 : arg9.IsWhole) (harg10 : arg10.IsWhole) (harg11 : arg11.IsWhole)
    (x2 : Vec Ideal S8 .f32) (x5 : Vec Ideal S1x1x128x2048 .fp8e4m3) (row : Fin 2048) (d : Fin 128) :
    out0_A_6 (F := Ideal) c i arg3 harg3 arg4 harg4 arg5 harg5 arg6 harg6 arg7 harg7 arg8 harg8 arg9 harg9 arg10 harg10 arg11 harg11 x0 x1 x2 x3 x4 x5 (ix3 0 row d)
      = blockOut (sl.r_3 (F := Ideal) c i arg3 harg3 arg4 harg4 x0 x1) (sl.r_4 (F := Ideal) c i arg5 harg5 x2) x3 x4 x5 (row.val / 256) (row.val % 256) d := by
  unfold out0_A_6
  rw [View.read_writes_junk_eq_canon]
  unfold kernelRun0_A
  dsimp only
  refine (?_ : IsOut _ _ x3 x4 x5 8 _) row d (by omega)
  refine IsOut.step ?_ (by rfl) _ _ (IsOutBlock.of_probs (probs7 c i arg3 harg3 arg4 harg4 arg6 harg6 arg7 harg7 arg10 x0 x1 x3 x4) (by rfl) (by rfl) arg8 harg8 arg11.view (by rfl) (by decide) (by decide) (by decide) (by decide) (by decide) (by decide) (by decide))
  refine IsOut.step ?_ (by rfl) _ _ (IsOutBlock.of_probs (probs6 c i arg3 harg3 arg4 harg4 arg6 harg6 arg7 harg7 arg10 x0 x1 x3 x4) (by rfl) (by rfl) arg8 harg8 arg11.view (by rfl) (by decide) (by decide) (by decide) (by decide) (by decide) (by decide) (by decide))
  refine IsOut.step ?_ (by rfl) _ _ (IsOutBlock.of_probs (probs5 c i arg3 harg3 arg4 harg4 arg6 harg6 arg7 harg7 arg10 x0 x1 x3 x4) (by rfl) (by rfl) arg8 harg8 arg11.view (by rfl) (by decide) (by decide) (by decide) (by decide) (by decide) (by decide) (by decide))
  refine IsOut.step ?_ (by rfl) _ _ (IsOutBlock.of_probs (probs4 c i arg3 harg3 arg4 harg4 arg6 harg6 arg7 harg7 arg10 x0 x1 x3 x4) (by rfl) (by rfl) arg8 harg8 arg11.view (by rfl) (by decide) (by decide) (by decide) (by decide) (by decide) (by decide) (by decide))
  refine IsOut.step ?_ (by rfl) _ _ (IsOutBlock.of_probs (probs3 c i arg3 harg3 arg4 harg4 arg6 harg6 arg7 harg7 arg10 x0 x1 x3 x4) (by rfl) (by rfl) arg8 harg8 arg11.view (by rfl) (by decide) (by decide) (by decide) (by decide) (by decide) (by decide) (by decide))
  refine IsOut.step ?_ (by rfl) _ _ (IsOutBlock.of_probs (probs2 c i arg3 harg3 arg4 harg4 arg6 harg6 arg7 harg7 arg10 x0 x1 x3 x4) (by rfl) (by rfl) arg8 harg8 arg11.view (by rfl) (by decide) (by decide) (by decide) (by decide) (by decide) (by decide) (by decide))
  refine IsOut.step ?_ (by rfl) _ _ (IsOutBlock.of_probs (probs1 c i arg3 harg3 arg4 harg4 arg6 harg6 arg7 harg7 arg10 x0 x1 x3 x4) (by rfl) (by rfl) arg8 harg8 arg11.view (by rfl) (by decide) (by decide) (by decide) (by decide) (by decide) (by decide) (by decide))
  refine IsOut.step ?_ (by rfl) _ _ (IsOutBlock.of_probs (probs0 c i arg3 harg3 arg4 harg4 arg6 harg6 arg7 harg7 arg10 x0 x1 x3 x4) (by rfl) (by rfl) arg8 harg8 arg11.view (by rfl) (by decide) (by decide) (by decide) (by decide) (by decide) (by decide) (by decide))
  exact IsOut.nil

end

end Cert.Attn

end
-- ==== Proof.Array.lean ====
/- The kernel's result array, read at an index: the block of its batch entry and head, over the blocks of the arrays that the grid
   point reads. -/
module

public import proofs.«01_k».proof.Proof.Blocks
public import proofs.«01_k».proof.Proof.Gen.KernelIdeal.Value
public import Idealize.ShloMosaic.Lib.Pipeline.ValueKit
public import Idealize.ShloMosaic.Lib.Pipeline.Covers
public import Idealize.ShloMosaic.Lib.StableHlo.ReadAt

@[expose] public section

set_option maxRecDepth 16384

noncomputable section

namespace Cert.Attn

open Cert.KernelIdeal Cert.KernelIdeal.Gen Idealize.ShloMosaic Idealize.ShloMosaic.TcCoe Cert.KernelIdeal.Gen.kernelRun0_A Idealize.SL.Sem

/-- A scalar loaded from an array of scalars. -/
theorem readAt_scalar {n : ℕ} (m : Memref sig .tc .smem ⟨1, ![n]⟩ .f32) (h : m.IsWhole) (x : (⟨1, ![n]⟩ : Shape).Idx → Elt Ideal .f32) (o : Fin n)
    (off : Fin 1 → ℕ) (hoff : off = ![o.val]) (inb : ∀ a, off a + S1.size a ≤ (⟨1, ![n]⟩ : Shape).size a) (hn) :
    View.readAt (Elt Ideal) m.view (Rect.unit (s := ⟨1, ![n]⟩) off S1.size inb).toLoadRect (h.unread x) (Shape.Idx.first hn) = x (ix1 o) := by
  subst hoff
  rw [View.readAt_eq_ld, h.read_unread]
  refine congrArg x ?_
  funext a
  apply Fin.ext
  match a with
  | ⟨0, _⟩ => show o.val + 1 * (0 % 1) = o.val; omega

/-- The head of the scalar that scales the queries, as the kernel reads it: key head times eight plus the group. -/
theorem off1_eq (t : Fin grid0.N) : k0_off1 (grid0.coords t) = ![(grid0.coords t 1).val * 8 + (grid0.coords t 2).val] :=
  (by decide +kernel : ∀ t : Fin grid0.N, k0_off1 (grid0.coords t) = ![(grid0.coords t 1).val * 8 + (grid0.coords t 2).val]) t

/-- The scalars that scale keys and values are those of the key head. -/
theorem off2_eq (t : Fin grid0.N) : k0_off2 (grid0.coords t) = ![(grid0.coords t 1).val] :=
  (by decide +kernel : ∀ t : Fin grid0.N, k0_off2 (grid0.coords t) = ![(grid0.coords t 1).val]) t

/-- The block of queries at a grid point. -/
theorem index3 : ∀ t : Fin cfg0.N, win0_3.index t = ![(grid0.coords t 0).val, 0, (grid0.coords t 1).val * 8 + (grid0.coords t 2).val] :=
  (by decide +kernel : ∀ t : Fin grid0.N, win0_3.index t = ![(grid0.coords t 0).val, 0, (grid0.coords t 1).val * 8 + (grid0.coords t 2).val])

/-- The block of keys at a grid point. -/
theorem index4 : ∀ t : Fin cfg0.N, win0_4.index t = ![(grid0.coords t 0).val, 0, (grid0.coords t 1).val] :=
  (by decide +kernel : ∀ t : Fin grid0.N, win0_4.index t = ![(grid0.coords t 0).val, 0, (grid0.coords t 1).val])

/-- The block of values at a grid point. -/
theorem index5 : ∀ t : Fin cfg0.N, win0_5.index t = ![(grid0.coords t 0).val, (grid0.coords t 1).val, 0, 0] :=
  (by decide +kernel : ∀ t : Fin grid0.N, win0_5.index t = ![(grid0.coords t 0).val, (grid0.coords t 1).val, 0, 0])

/-- The block of the result at a grid point. -/
theorem index6 : ∀ t : Fin cfg0.N, win0_6.index t = ![(grid0.coords t 0).val, 0, (grid0.coords t 1).val * 8 + (grid0.coords t 2).val] :=
  (by decide +kernel : ∀ t : Fin grid0.N, win0_6.index t = ![(grid0.coords t 0).val, 0, (grid0.coords t 1).val * 8 + (grid0.coords t 2).val])

/-- The scalar arrays are one block. -/
theorem index0 : ∀ t : Fin cfg0.N, win0_0.index t = ![0] := fun _ => rfl
/-- The scalar arrays are one block. -/
theorem index1 : ∀ t : Fin cfg0.N, win0_1.index t = ![0] := fun _ => rfl
/-- The scalar arrays are one block. -/
theorem index2 : ∀ t : Fin cfg0.N, win0_2.index t = ![0] := fun _ => rfl

/-- The grid points' blocks cover the result. -/
theorem covers6 : (cfg0.win 6).Covers := by decide +kernel

variable (m : (ℓ : Loc nD τ sig) → Buf (Elt Ideal) ℓ)

/-- The values as the kernel is handed them: heads split off and turned, so that a row holds a coordinate over all keys. -/
theorem V_values (c : Dev nD) (b kv : Fin 8) (d : Fin 128) (key : Fin 2048) :
    V m c main_v1 (ix4 b kv d key) = m ((c : Thread nD τ).loc main_arg4) (ix3 b key ⟨kv.val * 128 + d.val, by omega⟩) := by
  unfold V
  after_reads_at

/-- The queries of a head. -/
def headQ (x : S8x2048x8192.Idx → EReal) (b kv g : Fin 8) : S1x2048x128.Idx → EReal :=
  fun y => x (ix3 b (y 1) ⟨kv.val * 1024 + g.val * 128 + (y 2).val, by have := (y 2).isLt; change _ < 128 at this; omega⟩)

/-- The keys of a key head. -/
def headK (x : S8x2048x1024.Idx → EReal) (b kv : Fin 8) : S1x2048x128.Idx → EReal :=
  fun y => x (ix3 b (y 1) ⟨kv.val * 128 + (y 2).val, by have := (y 2).isLt; change _ < 128 at this; omega⟩)

/-- The values of a key head, a row for each coordinate. -/
def headV (x : S8x2048x1024.Idx → EReal) (b kv : Fin 8) : S1x1x128x2048.Idx → EReal :=
  fun y => x (ix3 b (y 3) ⟨kv.val * 128 + (y 2).val, by have := (y 2).isLt; change _ < 128 at this; omega⟩)

/-- The scale of a head's scores, over fifty. -/
def scoreScale (qs : S64.Idx → EReal) (ks : S8.Idx → EReal) (kv g : Fin 8) : EReal :=
  qs (ix1 ⟨kv.val * 8 + g.val, by omega⟩) * ks (ix1 kv) * Ideal.ofBits .f32 0x3DB504F3#32 * Ideal.ofBits .f32 0x3CA3D70A#32

/-- What the kernel's result holds at a row and a coordinate of a head. -/
def outAt (x : S8x2048x8192.Idx → EReal) (qs : S64.Idx → EReal) (k : S8x2048x1024.Idx → EReal) (ks : S8.Idx → EReal)
    (v : S8x2048x1024.Idx → EReal) (vs : S8.Idx → EReal) (b kv g : Fin 8) (s : Fin 2048) (d : Fin 128) : EReal :=
  blockOut (scoreScale qs ks kv g) (vs (ix1 kv) * Ideal.ofBits .f32 0x3B800000#32) (headQ x b kv g) (headK k b kv) (headV v b kv)
    (s.val / 256) (s.val % 256) d

/-- The result array, as a function of the arguments. -/
def outArray (x : S8x2048x8192.Idx → EReal) (qs : S64.Idx → EReal) (k : S8x2048x1024.Idx → EReal) (ks : S8.Idx → EReal)
    (v : S8x2048x1024.Idx → EReal) (vs : S8.Idx → EReal) : S8x2048x8192.Idx → EReal := fun i =>
  outAt x qs k ks v vs (i 0) (Fin.ofNat 8 ((i 2).val / 1024)) (Fin.ofNat 8 ((i 2).val / 128)) (i 1) (Fin.ofNat 128 (i 2).val)

/-- The result array at a row and a coordinate of a head. -/
theorem outArray_apply (x : S8x2048x8192.Idx → EReal) (qs : S64.Idx → EReal) (k : S8x2048x1024.Idx → EReal) (ks : S8.Idx → EReal)
    (v : S8x2048x1024.Idx → EReal) (vs : S8.Idx → EReal) (b kv g : Fin 8) (s : Fin 2048) (d : Fin 128) :
    outArray x qs k ks v vs (ix3 b s ⟨kv.val * 1024 + g.val * 128 + d.val, by omega⟩) = outAt x qs k ks v vs b kv g s d := by
  have h1 : Fin.ofNat 8 ((kv.val * 1024 + g.val * 128 + d.val) / 1024) = kv := Fin.ext (by show _ % 8 = _; omega)
  have h2 : Fin.ofNat 8 ((kv.val * 1024 + g.val * 128 + d.val) / 128) = g := Fin.ext (by show _ % 8 = _; omega)
  have h3 : Fin.ofNat 128 (kv.val * 1024 + g.val * 128 + d.val) = d := Fin.ext (by show _ % 128 = _; omega)
  show outAt x qs k ks v vs b (Fin.ofNat 8 ((kv.val * 1024 + g.val * 128 + d.val) / 1024))
    (Fin.ofNat 8 ((kv.val * 1024 + g.val * 128 + d.val) / 128)) s (Fin.ofNat 128 (kv.val * 1024 + g.val * 128 + d.val)) = _
  rw [h1, h2, h3]

/-- The query scales are staged whole. -/
theorem iblk_qs (c : Dev nD) (t : Fin cfg0.N) : iblk m c 0 t = m ((c : Thread nD τ).loc main_arg1) := by
  funext y
  blk_simp [iblk]
  refine (congrFun (V_main_arg1 m c) _).trans (congrArg (m ((c : Thread nD τ).loc main_arg1)) ?_)
  blk_ext [index0]

/-- The key scales are staged whole. -/
theorem iblk_ks (c : Dev nD) (t : Fin cfg0.N) : iblk m c 1 t = m ((c : Thread nD τ).loc main_arg3) := by
  funext y
  blk_simp [iblk]
  refine (congrFun (V_main_arg3 m c) _).trans (congrArg (m ((c : Thread nD τ).loc main_arg3)) ?_)
  blk_ext [index1]

/-- The value scales are staged whole. -/
theorem iblk_vs (c : Dev nD) (t : Fin cfg0.N) : iblk m c 2 t = m ((c : Thread nD τ).loc main_arg5) := by
  funext y
  blk_simp [iblk]
  refine (congrFun (V_main_arg5 m c) _).trans (congrArg (m ((c : Thread nD τ).loc main_arg5)) ?_)
  blk_ext [index2]

/-- The queries staged at a grid point. -/
theorem iblk_x (c : Dev nD) (t : Fin cfg0.N) :
    iblk m c 3 t = headQ (m ((c : Thread nD τ).loc main_arg0)) (grid0.coords t 0) (grid0.coords t 1) (grid0.coords t 2) := by
  funext y
  blk_simp [iblk]
  refine (congrFun (V_main_arg0 m c) _).trans (congrArg (m ((c : Thread nD τ).loc main_arg0)) ?_)
  blk_ext [index3]

/-- The keys staged at a grid point. -/
theorem iblk_k (c : Dev nD) (t : Fin cfg0.N) :
    iblk m c 4 t = headK (m ((c : Thread nD τ).loc main_arg2)) (grid0.coords t 0) (grid0.coords t 1) := by
  funext y
  blk_simp [iblk]
  refine (congrFun (V_main_arg2 m c) _).trans (congrArg (m ((c : Thread nD τ).loc main_arg2)) ?_)
  blk_ext [index4]

/-- The values staged at a grid point. -/
theorem iblk_v (c : Dev nD) (t : Fin cfg0.N) :
    iblk m c 5 t = headV (m ((c : Thread nD τ).loc main_arg4)) (grid0.coords t 0) (grid0.coords t 1) := by
  funext y
  blk_simp [iblk]
  refine Eq.trans (congrArg (V m c main_v1) ?_) (V_values m c (grid0.coords t 0) (grid0.coords t 1) (y 2) (y 3))
  blk_ext [index5]

/-- Where the result's block at a grid point lies in the array. -/
theorem emb6 (t : Fin cfg0.N) (s : Fin 2048) (d : Fin 128) :
    (win0_6.blk t).view.emb (ix3 (0 : Fin 1) s d)
      = ix3 (grid0.coords t 0 : Fin 8) s (⟨(grid0.coords t 1).val * 1024 + (grid0.coords t 2).val * 128 + d.val, by
          have h1 : (grid0.coords t 1).val < 8 := (grid0.coords t 1).isLt
          have h2 : (grid0.coords t 2).val < 8 := (grid0.coords t 2).isLt
          omega⟩ : Fin 8192) := by
  blk_ext [index6]

/-- What the kernel leaves in the result array is that function of its arguments. -/
theorem array_eq (c : Dev nD) :
    (dats m 0 c).arrAt 6 cfg0.N
      = outArray (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ covers6 fun t hf y => ?_
  blk_simp
  rw [after0_6]
  unfold outsAt0
  rw [iblk_qs, iblk_ks, iblk_vs, iblk_x, iblk_k, iblk_v]
  obtain ⟨s, d, rfl⟩ : ∃ (s : Fin 2048) (d : Fin 128), y = ix3 (0 : Fin 1) s d := ⟨y 1, y 2, by blk_ext⟩
  refine Eq.trans (out_apply_blocks c (grid0.coords t) (ms0_0 t) (hs0_0 t) (ms0_1 t) (hs0_1 t) (ms0_3 t) (hs0_3 t) (ms0_4 t) (hs0_4 t) scM0_0 scM0_1 _ _ _ _
    (ms0_2 t) (hs0_2 t) (ms0_5 t) (hs0_5 t) (ms0_6 t) (hs0_6 t) (Memref.isWhole_whole _) (Memref.isWhole_whole _) _ _ s d) ?_
  refine Eq.trans ?_ (congrArg _ (emb6 t s d)).symm
  refine Eq.trans ?_ (outArray_apply _ _ _ _ _ _ (grid0.coords t 0) (grid0.coords t 1) (grid0.coords t 2) s d).symm
  have e0 := readAt_scalar (ms0_0 t) (hs0_0 t) (m ((c : Thread nD τ).loc main_arg1)) ⟨(grid0.coords t 1).val * 8 + (grid0.coords t 2).val, by
          have h1 : (grid0.coords t 1).val < 8 := (grid0.coords t 1).isLt
          have h2 : (grid0.coords t 2).val < 8 := (grid0.coords t 2).isLt
          omega⟩ _ (off1_eq t) (k0_off1_inb _) (by exact (by decide : 0 < S1.numel))
  have e1 := readAt_scalar (ms0_1 t) (hs0_1 t) (m ((c : Thread nD τ).loc main_arg3)) (grid0.coords t 1) _ (off2_eq t) (k0_off2_inb _) (by exact (by decide : 0 < S1.numel))
  have e2 := readAt_scalar (ms0_2 t) (hs0_2 t) (m ((c : Thread nD τ).loc main_arg5)) (grid0.coords t 1) _ (off2_eq t) (k0_off2_inb _) (by exact (by decide : 0 < S1.numel))
  have w : ∀ a b : EReal, k0_pay2 (F := Ideal) a b = a * b * Ideal.ofBits .f32 0x3DB504F3#32 * Ideal.ofBits .f32 0x3CA3D70A#32 := fun _ _ => rfl
  have w' : ∀ a : EReal, k0_pay3 (F := Ideal) a = a * Ideal.ofBits .f32 0x3B800000#32 := fun _ => rfl
  refine congrArg₂ (fun w s' : EReal => blockOut w s' _ _ _ _ _ _) ((w _ _).trans ?_) ((w' _).trans ?_)
  · exact congrArg₂ (fun a b : EReal => a * b * Ideal.ofBits .f32 0x3DB504F3#32 * Ideal.ofBits .f32 0x3CA3D70A#32) e0 e1
  · exact congrArg (fun a : EReal => a * Ideal.ofBits .f32 0x3B800000#32) e2

end Cert.Attn

end
-- ==== Proof.Reference.lean ====
/- What the reference computes, at an index of its result: its operations read one at a time. -/
module

public import proofs.«01_k».proof.Proof.Gen.ReferenceIdeal.Value
public import Idealize.ShloMosaic.Lib.Pointwise
public import Idealize.ShloMosaic.Lib.WordCmp

@[expose] public section

set_option maxRecDepth 16384

noncomputable section

namespace Cert.AttnRef

open Cert.ReferenceIdeal Cert.ReferenceIdeal.Gen Idealize.ShloMosaic Idealize.ShloMosaic.TcCoe

/-- The score product at an index: keys against queries, over the head's 128 coordinates. -/
theorem score_dot (x : FVec Ideal S8x2048x8x128 .fp8e4m3) (y : FVec Ideal S8x2048x8x8x128 .fp8e4m3) (b : Fin 8) (kv : Fin 8) (key s : Fin 2048) (g : Fin 8) :
    matmul dot_S8x2048x8x128_S8x2048x8x8x128_S8x8x2048x2048x8_3_4_1_13_02_02 none x y (constant (F := Ideal) S8x8x2048x2048x8 .f32 0x00000000#32) (ix5 b kv key s g)
      = ∑ d : Fin 128, x (ix4 b key kv d) * y (ix5 b s kv g d) := by
  pointwise

/-- The value product at an index: over the 2048 keys. -/
theorem value_dot (x : FVec Ideal S8x2048x8x128 .fp8e4m3) (p : FVec Ideal S8x8x8x2048x2048 .fp8e4m3) (b : Fin 8) (kv : Fin 8) (d : Fin 128) (g : Fin 8) (s : Fin 2048) :
    matmul dot_S8x2048x8x128_S8x8x8x2048x2048_S8x8x128x8x2048_1_4_3_23_02_01 none x p (constant (F := Ideal) S8x8x128x8x2048 .f32 0x00000000#32) (ix5 b kv d g s)
      = ∑ key : Fin 2048, x (ix4 b key kv d) * p (ix5 b kv g s key) := by
  pointwise

/-- The queries split into heads. -/
theorem cast_x {α : Type} (x : S8x2048x8192.Idx → α) (h : S8x2048x8192.ShapeCasts S8x2048x8x8x128) (b : Fin 8) (s : Fin 2048) (kv g : Fin 8) (d : Fin 128) :
    shapeCast S8x2048x8x8x128 x h (ix5 b s kv g d) = x (ix3 b s ⟨kv.val * 1024 + g.val * 128 + d.val, by omega⟩) := by
  pointwise

/-- The keys (and the values) split into heads. -/
theorem cast_k {α : Type} (x : S8x2048x1024.Idx → α) (h : S8x2048x1024.ShapeCasts S8x2048x8x128) (b : Fin 8) (s : Fin 2048) (kv : Fin 8) (d : Fin 128) :
    shapeCast S8x2048x8x128 x h (ix4 b s kv d) = x (ix3 b s ⟨kv.val * 128 + d.val, by omega⟩) := by
  pointwise

/-- The output's heads laid side by side. -/
theorem cast_out {α : Type} (x : S8x2048x8x8x128.Idx → α) (h : S8x2048x8x8x128.ShapeCasts S8x2048x8192) (b : Fin 8) (s : Fin 2048) (kv g : Fin 8) (d : Fin 128) :
    shapeCast S8x2048x8192 x h (ix3 b s ⟨kv.val * 1024 + g.val * 128 + d.val, by omega⟩) = x (ix5 b s kv g d) := by
  pointwise

/-- The sum over the keys. -/
theorem sum_last (x : FVec Ideal S8x8x8x2048x2048 .f32) (h1 h2 h3) (b kv g : Fin 8) (s : Fin 2048) :
    multiReduction .add [4] S8x8x8x2048 x 0x00000000#32 h1 h2 h3 (ix4 b kv g s) = ∑ key : Fin 2048, x (ix5 b kv g s key) := by
  pointwise

/-- The maximum over the keys. -/
theorem max_last (x : FVec Ideal S8x8x8x2048x2048 .f32) (h1 h2 h3) (b kv g : Fin 8) (s : Fin 2048) :
    multiReduction .maximumf [4] S8x8x8x2048 x 0xFF800000#32 h1 h2 h3 (ix4 b kv g s) = Finset.univ.fold max (Ideal.ofBits .f32 0xFF800000#32) (fun key : Fin 2048 => x (ix5 b kv g s key)) := by
  pointwise

/-- A value per query, spread over the keys. -/
theorem bcast_last {α : Type} (x : S8x8x8x2048.Idx → α) (h1 h2) (b kv g : Fin 8) (s key : Fin 2048) :
    broadcastTo S8x8x8x2048x2048 (shapeCast S8x8x8x2048x1 x h1) h2 (ix5 b kv g s key) = x (ix4 b kv g s) := by
  pointwise

/-- The causal mask, spread over batch and heads. -/
theorem mask_bcast (x : IVec S2048x2048 1) (h1 h2 h3) (b kv g : Fin 8) (s key : Fin 2048) :
    broadcastTo S8x8x8x2048x2048 (shapeCast S1x1x1x2048x2048 (shapeCast S1x1x1x2048x2048 x h1) h2) h3 (ix5 b kv g s key) = x (ix2 s key) := by
  pointwise

/-- The causal mask at a query and a key. -/
theorem mask_apply (h0 h1 h2 h3 h4 h5) (s key : Fin 2048) :
    cmpi .sle (broadcastTo S2048x2048 (shapeCast S1x2048 (shapeCast S2048 (iota .tc S1x2048 32 [1] h0) h1) h2) h3)
      (broadcastTo S2048x2048 (shapeCast S2048x1 (shapeCast S2048 (iota .tc S1x2048 32 [1] h0) h1) h4) h5) (ix2 s key)
      = IntOp.cmpi .sle (BitVec.ofNat 32 key) (BitVec.ofNat 32 s) := by
  pointwise

/-- A scale per head, spread over batch, queries and keys. -/
theorem scale_bcast {α : Type} (x : S8x8.Idx → α) (h1 h2) (b kv g : Fin 8) (s key : Fin 2048) :
    broadcastTo S8x8x8x2048x2048 (shapeCast S1x8x8x1x1 x h1) h2 (ix5 b kv g s key) = x (ix2 kv g) := by
  pointwise

/-- The scale of the scores of a head. -/
theorem qk_scale (a1 : FVec Ideal S64 .f32) (a3 : FVec Ideal S8 .f32) (h1 h2 h3) (kv g : Fin 8) :
    mulf (mulf (shapeCast S8x8 a1 h1) (broadcastTo S8x8 (shapeCast S8x1 a3 h2) h3)) (broadcast S8x8 (Scalar.ofBits (F := Ideal) .f32 0x3DB504F3#32)) (ix2 kv g)
      = a1 (ix1 ⟨kv.val * 8 + g.val, by omega⟩) * a3 (ix1 kv) * Ideal.ofBits .f32 0x3DB504F3#32 := by
  pointwise

/-- The scores' axes reordered. -/
theorem transpose_score {α : Type} (x : S8x8x2048x2048x8.Idx → α) (h) (b kv g : Fin 8) (s key : Fin 2048) :
    transpose S8x8x8x2048x2048 [0, 1, 4, 3, 2] x h (ix5 b kv g s key) = x (ix5 b kv key s g) := by
  pointwise

/-- The output's axes reordered. -/
theorem transpose_out {α : Type} (x : S8x8x128x8x2048.Idx → α) (h) (b kv g : Fin 8) (s : Fin 2048) (d : Fin 128) :
    transpose S8x2048x8x8x128 [0, 4, 1, 3, 2] x h (ix5 b s kv g d) = x (ix5 b kv d g s) := by
  pointwise

/-- The scale of the output of a key head. -/
theorem out_scale (a5 : FVec Ideal S8 .f32) (h1 h2) (b kv g : Fin 8) (s : Fin 2048) (d : Fin 128) :
    broadcastTo S8x2048x8x8x128 (mulf (shapeCast S1x1x8x1x1 a5 h1) (broadcast S1x1x8x1x1 (Scalar.ofBits (F := Ideal) .f32 0x3B800000#32))) h2 (ix5 b s kv g d)
      = a5 (ix1 kv) * Ideal.ofBits .f32 0x3B800000#32 := by
  pointwise

/-- The reference's masked logits, before the maximum is taken off. -/
def logits (a0 : FVec Ideal S8x2048x8192 .fp8e4m3) (a2 : FVec Ideal S8x2048x1024 .fp8e4m3) (a1 : FVec Ideal S64 .f32) (a3 : FVec Ideal S8 .f32) :
    FVec Ideal S8x8x8x2048x2048 .f32 :=
  select
    (broadcastTo S8x8x8x2048x2048 (shapeCast S1x1x1x2048x2048 (shapeCast S1x1x1x2048x2048
      (cmpi .sle
        (broadcastTo S2048x2048 (shapeCast S1x2048 (shapeCast S2048 (iota .tc S1x2048 32 [1] iota_S1x2048_d1_w32) shapeCasts_S1x2048_S2048)
          shapeCasts_S2048_S1x2048) broadcasts_S1x2048_S2048x2048)
        (broadcastTo S2048x2048 (shapeCast S2048x1 (shapeCast S2048 (iota .tc S1x2048 32 [1] iota_S1x2048_d1_w32) shapeCasts_S1x2048_S2048)
          shapeCasts_S2048_S2048x1) broadcasts_S2048x1_S2048x2048))
      shapeCasts_S2048x2048_S1x1x1x2048x2048) shapeCasts_S1x1x1x2048x2048_S1x1x1x2048x2048) broadcasts_S1x1x1x2048x2048_S8x8x8x2048x2048)
    (mulf (broadcast S8x8x8x2048x2048 (Scalar.ofBits (F := Ideal) .f32 0x42480000#32))
      (tanh (mulf
        (mulf
          (transpose S8x8x8x2048x2048 [0, 1, 4, 3, 2]
            (matmul dot_S8x2048x8x128_S8x2048x8x8x128_S8x8x2048x2048x8_3_4_1_13_02_02 none
              (shapeCast S8x2048x8x128 a2 shapeCasts_S8x2048x1024_S8x2048x8x128)
              (shapeCast S8x2048x8x8x128 a0 shapeCasts_S8x2048x8192_S8x2048x8x8x128)
              (constant (F := Ideal) S8x8x2048x2048x8 .f32 0x00000000#32))
            transposes_S8x8x2048x2048x8_p0_1_4_3_2_S8x8x8x2048x2048)
          (broadcastTo S8x8x8x2048x2048 (shapeCast S1x8x8x1x1
            (mulf (mulf (shapeCast S8x8 a1 shapeCasts_S64_S8x8) (broadcastTo S8x8 (shapeCast S8x1 a3 shapeCasts_S8_S8x1) broadcasts_S8x1_S8x8))
              (broadcast S8x8 (Scalar.ofBits (F := Ideal) .f32 0x3DB504F3#32)))
            shapeCasts_S8x8_S1x8x8x1x1) broadcasts_S1x8x8x1x1_S8x8x8x2048x2048))
        (broadcast S8x8x8x2048x2048 (Scalar.ofBits (F := Ideal) .f32 0x3CA3D70A#32)))))
    (broadcast S8x8x8x2048x2048 (Scalar.ofBits (F := Ideal) .f32 0xFF800000#32))

/-- The score of a key against a query of a head: the sum over the head's 128 coordinates. -/
def refScore (a0 : FVec Ideal S8x2048x8192 .fp8e4m3) (a2 : FVec Ideal S8x2048x1024 .fp8e4m3) (b kv g : Fin 8) (s key : Fin 2048) : EReal :=
  ∑ d : Fin 128, a2 (ix3 b key ⟨kv.val * 128 + d.val, by omega⟩) * a0 (ix3 b s ⟨kv.val * 1024 + g.val * 128 + d.val, by omega⟩)

/-- The scale of a head's scores. -/
def headScale (a1 : FVec Ideal S64 .f32) (a3 : FVec Ideal S8 .f32) (kv g : Fin 8) : EReal :=
  a1 (ix1 ⟨kv.val * 8 + g.val, by omega⟩) * a3 (ix1 kv) * Ideal.ofBits .f32 0x3DB504F3#32

/-- A masked logit: the softcapped scaled score, or minus infinity where the key is after the query. -/
def logit (w x : EReal) (s key : ℕ) : EReal :=
  if key ≤ s then Ideal.ofBits .f32 0x42480000#32 * Ideal.tanh (x * w * Ideal.ofBits .f32 0x3CA3D70A#32) else Ideal.ofBits .f32 0xFF800000#32

/-- The masked logits at an index. -/
theorem logits_apply (a0 : FVec Ideal S8x2048x8192 .fp8e4m3) (a2 : FVec Ideal S8x2048x1024 .fp8e4m3) (a1 : FVec Ideal S64 .f32) (a3 : FVec Ideal S8 .f32)
    (b kv g : Fin 8) (s key : Fin 2048) :
    logits a0 a2 a1 a3 (ix5 b kv g s key) = logit (headScale a1 a3 kv g) (refScore a0 a2 b kv g s key) s key := by
  have e : ∀ (m : IVec S8x8x8x2048x2048 1) (x y : FVec Ideal S8x8x8x2048x2048 .f32) (i : S8x8x8x2048x2048.Idx),
      select m (mulf (broadcast S8x8x8x2048x2048 (Scalar.ofBits (F := Ideal) .f32 0x42480000#32))
          (tanh (mulf (mulf x y) (broadcast S8x8x8x2048x2048 (Scalar.ofBits (F := Ideal) .f32 0x3CA3D70A#32)))))
        (broadcast S8x8x8x2048x2048 (Scalar.ofBits (F := Ideal) .f32 0xFF800000#32)) i
      = Scalar.select (m i) (Ideal.ofBits .f32 0x42480000#32 * Ideal.tanh (x i * y i * Ideal.ofBits .f32 0x3CA3D70A#32)) (Ideal.ofBits .f32 0xFF800000#32) :=
    fun _ _ _ _ => rfl
  unfold logits
  rw [e, mask_bcast, mask_apply, transpose_score, score_dot, scale_bcast, qk_scale, WordCmp.cmpi_sle_ofNat (by omega) (by omega)]
  simp only [cast_k, cast_x]
  rw [logit, refScore, headScale]
  by_cases h : key.val ≤ s.val <;> simp [h, Scalar.select]

/-- The logits less their maximum, at an index. -/
theorem pay3_apply (a0 : FVec Ideal S8x2048x8192 .fp8e4m3) (a2 : FVec Ideal S8x2048x1024 .fp8e4m3) (a1 : FVec Ideal S64 .f32) (a3 : FVec Ideal S8 .f32)
    (b kv g : Fin 8) (s key : Fin 2048) :
    k0_pay3 (F := Ideal) a0 a2 a1 a3 (ix5 b kv g s key)
      = logit (headScale a1 a3 kv g) (refScore a0 a2 b kv g s key) s key
        - max (Ideal.ofBits .f32 0xFF800000#32) (Finset.univ.fold max (Ideal.ofBits .f32 0xFF800000#32)
            fun key : Fin 2048 => logit (headScale a1 a3 kv g) (refScore a0 a2 b kv g s key) s key) := by
  have e : k0_pay3 (F := Ideal) a0 a2 a1 a3
      = subf (logits a0 a2 a1 a3) (broadcastTo S8x8x8x2048x2048 (shapeCast S8x8x8x2048x1
          (maximumf (broadcast S8x8x8x2048 (Scalar.ofBits (F := Ideal) .f32 0xFF800000#32))
            (multiReduction .maximumf [4] S8x8x8x2048 (logits a0 a2 a1 a3) 0xFF800000#32 reduces_S8x8x8x2048x2048_S8x8x8x2048 (.inl rfl) rfl))
          shapeCasts_S8x8x8x2048_S8x8x8x2048x1) broadcasts_S8x8x8x2048x1_S8x8x8x2048x2048) := rfl
  have e1 : ∀ (x y : FVec Ideal S8x8x8x2048x2048 .f32) (i), subf x y i = x i - y i := fun _ _ _ => rfl
  have e2 : ∀ (y : FVec Ideal S8x8x8x2048 .f32) (i), maximumf (broadcast S8x8x8x2048 (Scalar.ofBits (F := Ideal) .f32 0xFF800000#32)) y i
      = max (Ideal.ofBits .f32 0xFF800000#32) (y i) := fun _ _ => rfl
  have hm := max_last (logits a0 a2 a1 a3) reduces_S8x8x8x2048x2048_S8x8x8x2048 (.inl rfl) rfl b kv g s
  simp only [logits_apply] at hm
  rw [e, e1, bcast_last, e2]
  exact congrArg₂ (fun x y : EReal => x - max (Ideal.ofBits .f32 0xFF800000#32) y) (logits_apply a0 a2 a1 a3 b kv g s key) hm

/-- The reference's result at a row and a coordinate of a head: softmax of the logits, times 256 and clipped, against the values, scaled. -/
theorem result_apply (a0 : FVec Ideal S8x2048x8192 .fp8e4m3) (a2 : FVec Ideal S8x2048x1024 .fp8e4m3) (a1 : FVec Ideal S64 .f32) (a3 : FVec Ideal S8 .f32)
    (a4 : FVec Ideal S8x2048x1024 .fp8e4m3) (a5 : FVec Ideal S8 .f32) (b kv g : Fin 8) (s : Fin 2048) (d : Fin 128) :
    k0_pay1 (F := Ideal) (k0_pay2 (F := Ideal) a4) (k0_pay3 (F := Ideal) a0 a2 a1 a3) a5 (ix3 b s ⟨kv.val * 1024 + g.val * 128 + d.val, by omega⟩)
      = (∑ key : Fin 2048, a4 (ix3 b key ⟨kv.val * 128 + d.val, by omega⟩)
          * min (Ideal.ofBits .f32 0x43E00000#32) (max (Ideal.ofBits .f32 0xC3E00000#32)
              (Ideal.div (Ideal.exp (k0_pay3 (F := Ideal) a0 a2 a1 a3 (ix5 b kv g s key))) (∑ key' : Fin 2048, Ideal.exp (k0_pay3 (F := Ideal) a0 a2 a1 a3 (ix5 b kv g s key')))
                * Ideal.ofBits .f32 0x43800000#32)))
        * (a5 (ix1 kv) * Ideal.ofBits .f32 0x3B800000#32) := by
  generalize k0_pay3 (F := Ideal) a0 a2 a1 a3 = l
  have e1 : ∀ (x y : FVec Ideal S8x2048x8x8x128 .f32) (i), mulf x y i = x i * y i := fun _ _ _ => rfl
  have e2 : ∀ (x : FVec Ideal S8x2048x8192 .f32) (h) (i), truncf .bf16 x h i = x i := fun _ _ _ => rfl
  have e3 : ∀ (x y : FVec Ideal S8x8x8x2048x2048 .f32) (h) (i),
      truncf .fp8e4m3 (minimumf (broadcast S8x8x8x2048x2048 (Scalar.ofBits (F := Ideal) .f32 0x43E00000#32))
        (maximumf (broadcast S8x8x8x2048x2048 (Scalar.ofBits (F := Ideal) .f32 0xC3E00000#32))
          (mulf (divf x y) (broadcast S8x8x8x2048x2048 (Scalar.ofBits (F := Ideal) .f32 0x43800000#32))))) h i
      = min (Ideal.ofBits .f32 0x43E00000#32) (max (Ideal.ofBits .f32 0xC3E00000#32)
          (Ideal.div (x i) (y i) * Ideal.ofBits .f32 0x43800000#32)) := fun _ _ _ _ => rfl
  have e4 : ∀ (x : FVec Ideal S8x8x8x2048x2048 .f32) (i), exp x i = Ideal.exp (x i) := fun _ _ => rfl
  unfold k0_pay1 k0_pay2
  dsimp only
  rw [e2, cast_out, e1, transpose_out, value_dot, out_scale]
  have hs := sum_last (exp l) reduces_S8x8x8x2048x2048_S8x8x8x2048 (.inl rfl) rfl b kv g s
  simp only [e4] at hs
  simp only [cast_k, e3, bcast_last, e4]
  exact congrArg (fun z : EReal => (∑ key : Fin 2048, a4 (ix3 b key ⟨kv.val * 128 + d.val, by omega⟩)
    * min (Ideal.ofBits .f32 0x43E00000#32) (max (Ideal.ofBits .f32 0xC3E00000#32)
      (Ideal.div (Ideal.exp (l (ix5 b kv g s key))) z * Ideal.ofBits .f32 0x43800000#32)))
    * (a5 (ix1 kv) * Ideal.ofBits .f32 0x3B800000#32)) hs

end Cert.AttnRef

end
-- ==== Proof.Softcap.lean ====
/- The equation between the two programs' results at one element: softmax over the softcapped logits, with and without the shift by
   the maximum. -/
module

public import proofs.«01_k».proof.Proof.Array
public import proofs.«01_k».proof.Proof.Reference

@[expose] public section

noncomputable section

namespace Cert.Attn

open Idealize.ShloMosaic

/-- The constant fifty. -/
theorem word_fifty : Ideal.ofBits .f32 0x42480000#32 = ((50 : ℝ) : EReal) := by
  simp [Ideal.ofBits, Ideal.ieee, -EReal.coe_mul, -EReal.coe_neg]; norm_num

/-- The constant 256. -/
theorem word_256 : Ideal.ofBits .f32 0x43800000#32 = ((256 : ℝ) : EReal) := by
  simp [Ideal.ofBits, Ideal.ieee, -EReal.coe_mul, -EReal.coe_neg]; norm_num

/-- The constant 448. -/
theorem word_448 : Ideal.ofBits .f32 0x43E00000#32 = ((448 : ℝ) : EReal) := by
  simp [Ideal.ofBits, Ideal.ieee, -EReal.coe_mul, -EReal.coe_neg]; norm_num

/-- The constant minus 448. -/
theorem word_neg_448 : Ideal.ofBits .f32 0xC3E00000#32 = ((-448 : ℝ) : EReal) := by
  simp [Ideal.ofBits, Ideal.ieee, -EReal.coe_mul, -EReal.coe_neg]; norm_num

/-- The constant minus infinity. -/
theorem word_bot : Ideal.ofBits .f32 0xFF800000#32 = ⊥ := by
  simp [Ideal.ofBits, Ideal.ieee]

/-- The constant that turns the base-two exponential of a capped score into its natural exponential: fifty over the logarithm of two. -/
theorem cap_eq : cap = ((50 * (Real.log 2)⁻¹ : ℝ) : EReal) :=
  IdealRules.named_const.ideal_named_scalar _ _ _ _ rfl

/-- The hyperbolic tangent is finite. -/
theorem tanh_real (x : EReal) : ∃ r : ℝ, Ideal.tanh x = (r : EReal) := by
  induction x using EReal.rec with
  | bot => exact ⟨-1, rfl⟩
  | coe r => exact ⟨_, rfl⟩
  | top => exact ⟨1, rfl⟩

/-- The weight of a score is the natural exponential of fifty times its hyperbolic tangent. -/
theorem weight_eq {w x : EReal} {r : ℝ} (h : Ideal.tanh (x * w) = (r : EReal)) : weight w cap x = ((Real.exp (50 * r) : ℝ) : EReal) := by
  rw [weight, h, cap_eq, ← EReal.coe_mul, Ideal.exp2_coe]
  have h2 : Real.log 2 ≠ 0 := (Real.log_pos (by norm_num)).ne'
  show ((2 ^ (r * (50 * (Real.log 2)⁻¹)) : ℝ) : EReal) = _
  rw [Real.rpow_def_of_pos (by norm_num)]
  congr 2
  field_simp

/-- The maximum of finitely many logits, one of them finite and none plus infinity, is finite. -/
theorem max_real {n : ℕ} (f : Fin n → EReal) (i : Fin n) (hi : f i ≠ ⊥) (hf : ∀ j, f j ≠ ⊤) :
    ∃ M : ℝ, max ⊥ (Finset.univ.fold max ⊥ f) = (M : EReal) := by
  have h1 : Finset.univ.fold max ⊥ f ≠ ⊥ :=
    (lt_of_lt_of_le (bot_lt_iff_ne_bot.mpr hi) ((Finset.le_fold_max _).mpr (.inr ⟨i, Finset.mem_univ i, le_rfl⟩))).ne'
  have h2 : Finset.univ.fold max ⊥ f ≠ ⊤ :=
    ((Finset.fold_max_lt _).mpr ⟨bot_lt_top, fun j _ => lt_top_iff_ne_top.mpr (hf j)⟩).ne
  exact ⟨_, (max_eq_right bot_le).trans (EReal.coe_toReal h2 h1).symm⟩

/-- The sum of finite weights is the sum of their real values. -/
theorem sum_real {ι : Type} (s : Finset ι) (f : ι → EReal) (g : ι → ℝ) (h : ∀ i ∈ s, f i = (g i : EReal)) :
    ∑ i ∈ s, f i = ((∑ i ∈ s, g i : ℝ) : EReal) := by
  rw [Finset.sum_congr rfl h]
  classical
  induction s using Finset.induction_on with
  | empty => simp
  | insert a s ha ih =>
    rw [Finset.sum_insert ha, Finset.sum_insert ha, EReal.coe_add, ih fun i hi => h i (Finset.mem_insert_of_mem hi)]

/-- A clipped zero is zero. -/
theorem clip_zero : min (Ideal.ofBits .f32 0x43E00000#32) (max (Ideal.ofBits .f32 0xC3E00000#32) (0 : EReal)) = 0 := by
  rw [word_448, word_neg_448, max_eq_right (by exact_mod_cast (by norm_num : (-448 : ℝ) ≤ 0)),
    min_eq_right (by exact_mod_cast (by norm_num : (0 : ℝ) ≤ 448))]

/-- The quantized probability of a key is the same either way: the kernel normalizes the exponentials of the logits it sums, over the
    blocks up to the query's; the reference takes the maximum `M` off first and sums over all keys. -/
theorem prob_eq (sc : ℕ → EReal) (w : EReal) (s n : ℕ) (hs : s < 256 * n + 256) (hn : 256 * n + 256 ≤ 2048) (key : Fin 2048) :
    quant (Ideal.div (Ideal.ofBits .f32 0x43800000#32)
        (∑ key' ∈ Finset.range (32 * (8 * n + 8)), if key' ≤ s then weight (w * Ideal.ofBits .f32 0x3CA3D70A#32) cap (sc key') else 0))
      (if key.val ≤ s then weight (w * Ideal.ofBits .f32 0x3CA3D70A#32) cap (sc key) else 0)
    = min (Ideal.ofBits .f32 0x43E00000#32) (max (Ideal.ofBits .f32 0xC3E00000#32)
        (Ideal.div
          (Ideal.exp (AttnRef.logit w (sc key) s key - max (Ideal.ofBits .f32 0xFF800000#32)
            (Finset.univ.fold max (Ideal.ofBits .f32 0xFF800000#32) fun k : Fin 2048 => AttnRef.logit w (sc k) s k)))
          (∑ key' : Fin 2048, Ideal.exp (AttnRef.logit w (sc key') s key' - max (Ideal.ofBits .f32 0xFF800000#32)
            (Finset.univ.fold max (Ideal.ofBits .f32 0xFF800000#32) fun k : Fin 2048 => AttnRef.logit w (sc k) s k)))
          * Ideal.ofBits .f32 0x43800000#32)) := by
  choose r hr using fun key => tanh_real (sc key * w * Ideal.ofBits .f32 0x3CA3D70A#32)
  have hr' : ∀ key, Ideal.tanh (sc key * (w * Ideal.ofBits .f32 0x3CA3D70A#32)) = (r key : EReal) := fun key => by rw [← mul_assoc, hr]
  have hG : ∀ key, (if key ≤ s then weight (w * Ideal.ofBits .f32 0x3CA3D70A#32) cap (sc key) else 0)
      = ((if key ≤ s then Real.exp (50 * r key) else 0 : ℝ) : EReal) := fun key => by
    split
    · exact weight_eq (hr' key)
    · rfl
  have hL : ∀ key, AttnRef.logit w (sc key) s key = if key ≤ s then ((50 * r key : ℝ) : EReal) else ⊥ := fun key => by
    rw [AttnRef.logit, hr, word_fifty, word_bot, EReal.coe_mul]
  obtain ⟨M, hM⟩ := max_real (fun k : Fin 2048 => AttnRef.logit w (sc k) s k) 0
    (by rw [hL, if_pos (by exact Nat.zero_le s)]; exact EReal.coe_ne_bot _) (fun j => by rw [hL]; split; exacts [EReal.coe_ne_top _, bot_ne_top])
  have hE : ∀ key, Ideal.exp (AttnRef.logit w (sc key) s key - (M : EReal))
      = (((if key ≤ s then Real.exp (50 * r key) else 0) * Real.exp (-M) : ℝ) : EReal) := fun key => by
    rw [hL]
    split
    · rw [← EReal.coe_sub, Ideal.exp_coe, ← Real.exp_add, sub_eq_add_neg]
    · rw [EReal.bot_sub, Ideal.exp_bot, zero_mul]; rfl
  have hT : 0 < ∑ key ∈ Finset.range 2048, (if key ≤ s then Real.exp (50 * r key) else 0) := by
    refine Finset.sum_pos' (fun key _ => ?_) ⟨0, by simp, ?_⟩
    · split
      exacts [(Real.exp_pos _).le, le_rfl]
    · rw [if_pos (Nat.zero_le s)]; exact Real.exp_pos _
  have hsum : ∑ key ∈ Finset.range (32 * (8 * n + 8)), (if key ≤ s then Real.exp (50 * r key) else 0)
      = ∑ key ∈ Finset.range 2048, (if key ≤ s then Real.exp (50 * r key) else 0) := by
    refine Finset.sum_subset (Finset.range_subset_range.mpr (by omega)) fun key _ h => if_neg ?_
    rw [Finset.mem_range] at h; omega
  rw [word_bot, hM]
  simp only [hG, hE]
  rw [sum_real _ _ _ fun _ _ => rfl, sum_real _ _ _ fun _ _ => rfl, hsum, ← Finset.sum_mul,
    ← Finset.sum_range fun key => if key ≤ s then Real.exp (50 * r key) else 0]
  generalize ∑ key ∈ Finset.range 2048, (if key ≤ s then Real.exp (50 * r key) else 0) = T at hT
  generalize (if key.val ≤ s then Real.exp (50 * r key) else 0) = e
  have hM' := Real.exp_pos (-M)
  rw [quant]
  refine congrArg (fun z : EReal => min (Ideal.ofBits .f32 0x43E00000#32) (max (Ideal.ofBits .f32 0xC3E00000#32) z)) ?_
  rw [Ideal.div_coe hT.ne', Ideal.div_coe (mul_pos hT hM').ne', word_256]
  simp only [← EReal.coe_mul]
  congr 1
  field_simp

/-- What the kernel's result holds at a row and a coordinate of a head is what the reference's result holds there. -/
theorem element_eq (x : FVec Ideal Cert.ReferenceIdeal.S8x2048x8192 .fp8e4m3) (qs : FVec Ideal Cert.ReferenceIdeal.S64 .f32)
    (k : FVec Ideal Cert.ReferenceIdeal.S8x2048x1024 .fp8e4m3) (ks : FVec Ideal Cert.ReferenceIdeal.S8 .f32)
    (v : FVec Ideal Cert.ReferenceIdeal.S8x2048x1024 .fp8e4m3) (vs : FVec Ideal Cert.ReferenceIdeal.S8 .f32)
    (b kv g : Fin 8) (s : Fin 2048) (d : Fin 128) :
    outAt x qs k ks v vs b kv g s d
      = Cert.ReferenceIdeal.Value.G6 (F := Ideal) x qs k ks v vs (ix3 b s ⟨kv.val * 1024 + g.val * 128 + d.val, by omega⟩) := by
  refine Eq.trans ?_ (AttnRef.result_apply x k qs ks v vs b kv g s d).symm
  simp only [AttnRef.pay3_apply]
  have hsc : ∀ key : Fin 2048, AttnRef.refScore x k b kv g s key
      = score (headQ x b kv g) (headK k b kv) (256 * (s.val / 256)) key (s.val % 256) := fun key => by
    have h1 : Fin.ofNat 2048 key.val = key := Fin.ext (Nat.mod_eq_of_lt key.isLt)
    have h2 : Fin.ofNat 2048 (256 * (s.val / 256) + s.val % 256) = s := Fin.ext (by show _ % 2048 = _; omega)
    rw [score, h1, h2]
    rfl
  simp only [hsc]
  have hs : 256 * (s.val / 256) + s.val % 256 = s.val := Nat.div_add_mod _ _
  have hp := prob_eq (fun key => score (headQ x b kv g) (headK k b kv) (256 * (s.val / 256)) key (s.val % 256)) (AttnRef.headScale qs ks kv g)
    s (s.val / 256) (by omega) (by omega)
  simp only [← hp]
  rw [outAt, blockOut]
  refine congrArg (· * _) ?_
  have hsub : Finset.range (256 * (s.val / 256) + 256) ⊆ Finset.range 2048 := Finset.range_subset_range.mpr (by omega)
  rw [Finset.sum_subset hsub, Finset.sum_range]
  · refine Finset.sum_congr rfl fun key _ => ?_
    have h1 : Fin.ofNat 2048 key.val = key := Fin.ext (Nat.mod_eq_of_lt key.isLt)
    rw [probs, normalizer, blockExp, h1]
    simp only [masked, hs]
    rfl
  · intro key _ h
    rw [Finset.mem_range] at h
    rw [probs, quant, blockExp, masked, if_neg (by omega), zero_mul]
    exact (congrArg (_ * ·) clip_zero).trans (mul_zero _)

end Cert.Attn

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.Softcap
public import Idealize.ShloMosaic.Adequacy
public import Idealize.ShloMosaic.Init

@[expose] public section

noncomputable section

namespace Cert.Proof

open Idealize.ShloMosaic Idealize.SL.Sem Cert.Kernel

/-- The kernel's result array and the reference's are the same function of the arguments. -/
theorem result_eq (x : FVec Ideal Cert.ReferenceIdeal.S8x2048x8192 .fp8e4m3) (qs : FVec Ideal Cert.ReferenceIdeal.S64 .f32)
    (k : FVec Ideal Cert.ReferenceIdeal.S8x2048x1024 .fp8e4m3) (ks : FVec Ideal Cert.ReferenceIdeal.S8 .f32)
    (v : FVec Ideal Cert.ReferenceIdeal.S8x2048x1024 .fp8e4m3) (vs : FVec Ideal Cert.ReferenceIdeal.S8 .f32) :
    Cert.Attn.outArray x qs k ks v vs = Cert.ReferenceIdeal.Value.G6 (F := Ideal) x qs k ks v vs := by
  funext i
  obtain ⟨b, s, col, rfl⟩ : ∃ (b : Fin 8) (s : Fin 2048) (col : Fin 8192), i = ix3 b s col :=
    ⟨i 0, i 1, i 2, funext fun a => match a with | ⟨0, _⟩ => rfl | ⟨1, _⟩ => rfl | ⟨2, _⟩ => rfl⟩
  obtain ⟨kv, g, d, h⟩ : ∃ (kv g : Fin 8) (d : Fin 128), col.val = kv.val * 1024 + g.val * 128 + d.val :=
    ⟨⟨col.val / 1024, by omega⟩, ⟨col.val / 128 % 8, by omega⟩, ⟨col.val % 128, by omega⟩, by dsimp only; omega⟩
  rw [show col = ⟨kv.val * 1024 + g.val * 128 + d.val, by omega⟩ from Fin.ext h]
  exact (Cert.Attn.outArray_apply x qs k ks v vs b kv g s d).trans (Cert.Attn.element_eq x qs k ks v vs b kv g s d)

/-- All five claims: the three runs, the constant, and the equality of the results. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    IdealRules.named_const.statement Cert.KernelIdeal.κ "cap_log2e" .f32 0x429044FE#32 ((50 * (Real.log 2)⁻¹ : ℝ) : EReal) rfl,
    fun m g m' g' _ hagree => ⟨fun c => (Cert.KernelIdeal.Gen.dats m 0 c).arrAt 6 Cert.KernelIdeal.cfg0.N,
      Cert.KernelIdeal.Value.run_blocks m g,
      (θ_run _ _ _).mono (fun r h c => ⟨(h c).1.trans (by
        obtain ⟨h0, h1, h2, h3, h4, h5⟩ := hagree c
        rw [h0, h1, h2, h3, h4, h5]
        exact ((Cert.Attn.array_eq m c).trans (result_eq _ _ _ _ _ _)).symm), (h c).2⟩)
        (Cert.ReferenceIdeal.Value.run m' g')⟩⟩

end Cert.Proof

end
